-- ==== Defs.lean ====
def Pre_Kernel [hPre_molecules : Cert.Pre_molecules.Facts] (m : (ℓ : Loc Cert.Kernel.nD Cert.Kernel.τ Cert.Kernel.sig) → Buf (Elt Bits) ℓ) : Prop :=
  ∀ c : Dev Cert.Kernel.nD,
    (Cert.Pre_molecules.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_molecules : Cert.Pre_molecules.Facts] (m : (ℓ : Loc Cert.KernelIdeal.nD Cert.KernelIdeal.τ Cert.KernelIdeal.sig) → Buf (Elt Ideal) ℓ) : Prop :=
  ∀ c : Dev Cert.KernelIdeal.nD,
    (Cert.Pre_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_molecules [hPre_molecules : Cert.Pre_molecules.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_molecules : Cert.Pre_molecules.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_molecules : Cert.Pre_molecules.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_molecules [hReferenceIdeal : Cert.ReferenceIdeal.Facts] [hPre_molecules : Cert.Pre_molecules.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_molecules m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_molecules : Cert.Pre_molecules.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_molecules : Cert.Pre_molecules.Facts),
    quiescent_Kernel (hKernel := hKernel) (hPre_molecules := hPre_molecules)
    ∧ quiescent_KernelIdeal (hKernelIdeal := hKernelIdeal) (hPre_molecules := hPre_molecules)
    ∧ quiescent_ReferenceIdeal (hReferenceIdeal := hReferenceIdeal)
    ∧ quiescent_ReferenceIdeal_pre_molecules (hReferenceIdeal := hReferenceIdeal) (hPre_molecules := hPre_molecules)
    ∧ preserves_Kernel_KernelIdeal
    ∧ algebraic_KernelIdeal_ReferenceIdeal (hKernelIdeal := hKernelIdeal) (hReferenceIdeal := hReferenceIdeal) (hPre_molecules := hPre_molecules)
-- ==== Pre_molecules.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S128x64 .f32) (main_arg3 : FVec F S64 .f32) (main_arg4 : FVec F S64x3 .f32) (main_arg5 : FVec F S3 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 2048#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Kernel.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x64 : Shape := ⟨2, ![1, 64]⟩
abbrev S1x3 : Shape := ⟨2, ![1, 3]⟩
abbrev S320000x3 : Shape := ⟨2, ![320000, 3]⟩
abbrev S2000x128 : Shape := ⟨2, ![2000, 128]⟩
abbrev S2000x3 : Shape := ⟨2, ![2000, 3]⟩
abbrev S2000x64 : Shape := ⟨2, ![2000, 64]⟩
abbrev S960000 : Shape := ⟨1, ![960000]⟩
abbrev S32x6144 : Shape := ⟨2, ![32, 6144]⟩
abbrev S30000 : Shape := ⟨1, ![30000]⟩
abbrev S10000 : Shape := ⟨1, ![10000]⟩
abbrev S6144 : Shape := ⟨1, ![6144]⟩
abbrev S_ : Shape := ⟨0, ![]⟩
abbrev S16 : Shape := ⟨1, ![16]⟩
abbrev S1x6144 : Shape := ⟨2, ![1, 6144]⟩
abbrev S2048x3 : Shape := ⟨2, ![2048, 3]⟩

abbrev nBuf : Table → Nat
  | .hbm => 13
  | .local .tc .vmem => 10
  | .local .scVector .vmem => 3
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S128x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S1x64, .f32⟩
  | .hbm, ⟨7, _⟩ => ⟨S1x3, .f32⟩
  | .hbm, ⟨8, _⟩ => ⟨S320000x3, .f32⟩
  | .hbm, ⟨9, _⟩ => ⟨S960000, .f32⟩
  | .hbm, ⟨10, _⟩ => ⟨S32x6144, .f32⟩
  | .hbm, ⟨11, _⟩ => ⟨S1x6144, .f32⟩
  | .hbm, ⟨12, _⟩ => ⟨S2048x3, .f32⟩
  | .local .tc .vmem, ⟨0, _⟩ => ⟨S2000x128, .f32⟩
  | .local .tc .vmem, ⟨1, _⟩ => ⟨S2000x128, .f32⟩
  | .local .tc .vmem, ⟨2, _⟩ => ⟨S128x64, .f32⟩
  | .local .tc .vmem, ⟨3, _⟩ => ⟨S1x64, .f32⟩
  | .local .tc .vmem, ⟨4, _⟩ => ⟨S64x3, .f32⟩
  | .local .tc .vmem, ⟨5, _⟩ => ⟨S1x3, .f32⟩
  | .local .tc .vmem, ⟨6, _⟩ => ⟨S2000x3, .f32⟩
  | .local .tc .vmem, ⟨7, _⟩ => ⟨S2000x3, .f32⟩
  | .local .tc .vmem, ⟨8, _⟩ => ⟨S32x6144, .f32⟩
  | .local .tc .vmem, ⟨9, _⟩ => ⟨S1x6144, .f32⟩
  | .local .scVector .vmem, ⟨0, _⟩ => ⟨S30000, .f32⟩
  | .local .scVector .vmem, ⟨1, _⟩ => ⟨S10000, .i32⟩
  | .local .scVector .vmem, ⟨2, _⟩ => ⟨S6144, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v3_scv : Ref sig .scVector := ⟨.hbm, 9, rfl⟩
abbrev main_arg1_scv : Ref sig .scVector := ⟨.hbm, 1, rfl⟩
abbrev main_v4_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc2_stg0_0 : Ref sig .tc := ⟨.vmem, 8, rfl⟩
abbrev cc2_stg1_0 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc2_sem0_0 : DmaSem sig := 11
abbrev cc2_sem1_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c3_i32 : BitVec 32 := 3#32
  let v3 : BitVec 32 := Scalar.muli v2 c3_i32
  ![v3.toNat]
@[reducible] def k1_t1_loop : Scf.Loop 32 :=
  let c0_i32_0 : BitVec 32 := 0#32
  let c384_i32 : BitVec 32 := 384#32
  let v5 : BitVec 32 := Scalar.addi c0_i32_0 c384_i32
  let c1_i32 : BitVec 32 := 1#32
  ⟨c0_i32_0, v5, c1_i32⟩
def k1_off3 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32 : BitVec 32 := 16#32
  let v12 : BitVec 32 := Scalar.muli arg8 c16_i32
  let v13 : Index := Scalar.indexCast v12
  ![v13.toNat]
@[reducible] def k1_t2_loop : Scf.Loop 32 :=
  let c0_i32_4 : BitVec 32 := 0#32
  let c625_i32 : BitVec 32 := 625#32
  let v10 : BitVec 32 := Scalar.addi c0_i32_4 c625_i32
  let c1_i32_5 : BitVec 32 := 1#32
  ⟨c0_i32_4, v10, c1_i32_5⟩
def k1_off4 (k1_t2 : Fin k1_t2_loop.trips) : Fin 1 → Nat :=
  let c0_i32_4 : BitVec 32 := 0#32
  let c1_i32_5 : BitVec 32 := 1#32
  let arg8 : BitVec 32 := Scf.iv c0_i32_4 c1_i32_5 k1_t2
  let c16_i32 : BitVec 32 := 16#32
  let v12 : BitVec 32 := Scalar.muli arg8 c16_i32
  let v13 : Index := Scalar.indexCast v12
  ![v13.toNat]

def k1_chk1 (v20 : IVec S16 32) : Prop :=
  (∀ a x, ((![v20] : Fin 1 → IVec S16 32) a x).toNat < S30000.size a)
theorem k1_idx1_inb : ∀ (v20 : IVec S16 32) (k1_hw1 : k1_chk1 v20), ∀ a x, ((![v20] : Fin 1 → IVec S16 32) a x).toNat < S30000.size a := fun v20 k1_hw1 => k1_hw1

def k1_chk2 (v23 : IVec S16 32) : Prop :=
  (∀ a x, ((![v23] : Fin 1 → IVec S16 32) a x).toNat < S6144.size a)
theorem k1_idx2_inb : ∀ (v23 : IVec S16 32) (k1_hw2 : k1_chk2 v23), ∀ a x, ((![v23] : Fin 1 → IVec S16 32) a x).toNat < S6144.size a := fun v23 k1_hw2 => k1_hw2

def k1_chk3 (v26 : IVec S16 32) : Prop :=
  (∀ a x, ((![v26] : Fin 1 → IVec S16 32) a x).toNat < S30000.size a)
theorem k1_idx3_inb : ∀ (v26 : IVec S16 32) (k1_hw3 : k1_chk3 v26), ∀ a x, ((![v26] : Fin 1 → IVec S16 32) a x).toNat < S30000.size a := fun v26 k1_hw3 => k1_hw3

def k1_chk4 (v29 : IVec S16 32) : Prop :=
  (∀ a x, ((![v29] : Fin 1 → IVec S16 32) a x).toNat < S6144.size a)
theorem k1_idx4_inb : ∀ (v29 : IVec S16 32) (k1_hw4 : k1_chk4 v29), ∀ a x, ((![v29] : Fin 1 → IVec S16 32) a x).toNat < S6144.size a := fun v29 k1_hw4 => k1_hw4

def k1_chk5 (v32 : IVec S16 32) : Prop :=
  (∀ a x, ((![v32] : Fin 1 → IVec S16 32) a x).toNat < S30000.size a)
theorem k1_idx5_inb : ∀ (v32 : IVec S16 32) (k1_hw5 : k1_chk5 v32), ∀ a x, ((![v32] : Fin 1 → IVec S16 32) a x).toNat < S30000.size a := fun v32 k1_hw5 => k1_hw5

def k1_chk6 (v35 : IVec S16 32) : Prop :=
  (∀ a x, ((![v35] : Fin 1 → IVec S16 32) a x).toNat < S6144.size a)
theorem k1_idx6_inb : ∀ (v35 : IVec S16 32) (k1_hw6 : k1_chk6 v35), ∀ a x, ((![v35] : Fin 1 → IVec S16 32) a x).toNat < S6144.size a := fun v35 k1_hw6 => k1_hw6
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r2 : BitVec 32 := 0#32
  ![v1.toNat, 0]
abbrev grid2 : Pipeline.Grid := .none

abbrev stage2_0 : Fin 1 → Memref sig .tc .vmem S32x6144 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x6144 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S320000x64 : Shape := ⟨2, ![320000, 64]⟩
abbrev S1x64 : Shape := ⟨2, ![1, 64]⟩
abbrev S_ : Shape := ⟨0, ![]⟩
abbrev S320000x3 : Shape := ⟨2, ![320000, 3]⟩
abbrev S1x3 : Shape := ⟨2, ![1, 3]⟩
abbrev S2048x3 : Shape := ⟨2, ![2048, 3]⟩
abbrev S320000x1 : Shape := ⟨2, ![320000, 1]⟩

abbrev nBuf : Space → Nat
  | .hbm => 27
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S320000x64, .f32⟩
  | .hbm, ⟨7, _⟩ => ⟨S1x64, .f32⟩
  | .hbm, ⟨8, _⟩ => ⟨S320000x64, .f32⟩
  | .hbm, ⟨9, _⟩ => ⟨S320000x64, .f32⟩
  | .hbm, ⟨10, _⟩ => ⟨S320000x64, .f32⟩
  | .hbm, ⟨11, _⟩ => ⟨S320000x64, .f32⟩
  | .hbm, ⟨12, _⟩ => ⟨S_, .f32⟩
  | .hbm, ⟨13, _⟩ => ⟨S320000x64, .f32⟩
  | .hbm, ⟨14, _⟩ => ⟨S320000x64, .f32⟩
  | .hbm, ⟨15, _⟩ => ⟨S_, .f32⟩
  | .hbm, ⟨16, _⟩ => ⟨S320000x64, .f32⟩
  | .hbm, ⟨17, _⟩ => ⟨S320000x64, .f32⟩
  | .hbm, ⟨18, _⟩ => ⟨S320000x64, .f32⟩
  | .hbm, ⟨19, _⟩ => ⟨S320000x3, .f32⟩
  | .hbm, ⟨20, _⟩ => ⟨S1x3, .f32⟩
  | .hbm, ⟨21, _⟩ => ⟨S320000x3, .f32⟩
  | .hbm, ⟨22, _⟩ => ⟨S320000x3, .f32⟩
  | .hbm, ⟨23, _⟩ => ⟨S_, .f32⟩
  | .hbm, ⟨24, _⟩ => ⟨S2048x3, .f32⟩
  | .hbm, ⟨25, _⟩ => ⟨S320000x1, .i32⟩
  | .hbm, ⟨26, _⟩ => ⟨S2048x3, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩

abbrev nD : Nat := 1
abbrev τ : Topo := Topo.v7x

variable {F : FTy → Type} [FloatOps F]
-- ==== Proof.KernelIdeal.Base.lean ====
/-
  What every module of this certificate shares: the program as the launch theorem of SparseCore programs sees it
  (`K`, `D`), the resource algebra (the handshakes' rounds, the two TensorCore pipelines' rounds, and the counters the
  tiles' local copies take their tokens from), and the valuations of the device's buffers through `@main`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.Pipeline.FrameBody
public import Idealize.ShloMosaic.Lib.StableHlo.Run
public import Idealize.ShloMosaic.Lib.Claim
public import Idealize.ShloMosaic.Lib.Tactic

@[expose] public section

noncomputable section

namespace Cert.KernelIdeal.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the two TensorCore pipelines over the kernels' own. -/
abbrev ΛP : Labels := Pipeline.Sig Λ₀ (Fin 2) fun p => (pcfgs (F := F) p).Adm
/-- The SparseCore configuration: one call, on two SparseCores of sixteen tiles. -/
abbrev K : SparseCore.Cfg τ sig (ΛP (F := F)) 1 := sc (F := F)
/-- The body table below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores' layout. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds, the pipelines' rounds, the local copies' counters. -/
abbrev UH : Type := URounds (GSem nD τ sig) ℕ
abbrev UP : Type := UR sig nD τ
abbrev UU : Type := UH × (UP × Counters)

local notation "𝕄" => MT nD τ sig (HIx 1) (Elt F) ℕ UU ℕ

/-- The handshakes' component. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipelines' component. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The prefetched tables' admissible contents: no pipeline has a table. -/
abbrev adm : (p : Fin 2) → (pcfgs (F := F) p).Adm := fun p => (cfgs p).toPCfg_adm

/-- A buffer of device `d`'s TensorCore held whole at contents `f`. -/
abbrev pt (d : Dev nD) (b : Ref sig .tc) (f : b.ty.Contents (Elt F)) : sProp 𝕄 := (SparseCore.T d : Thread nD τ).loc b ↦{fullShare} f

end Cert.KernelIdeal.Run

end
-- ==== Proof.KernelIdeal.TileVal.lean ====
/-
  What one SparseCore tile computes, as a function of its slices of the molecule indices and of the per-atom values,
  and the index words the kernel computes, as numbers.
-/
module

public import proofs.«01_k».proof.Proof.KernelIdeal.Base
public import Idealize.ShloMosaic.Lib.Pipeline.ValueKit
public import Idealize.ShloMosaic.Lib.Pipeline.Value
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.SparseCore.Cfg (HIx mem_ownCells ownSems0 ownBufs ownRefs ownCells)
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## What a tile computes -/

/-- The 16 words of `y` the index vector names. -/
def gath (y : Vec F S30000 .f32) (ix : IVec S16 32) : Vec F S16 .f32 := fun x =>
  y (ValueIdx.ix1 ⟨(ix x).toNat % 30000, Nat.mod_lt _ (by decide)⟩)

/-- The 16 lanes of `v` added, lowest lane first, each at the word of `acc` the index vector names for it. -/
def scat (acc : Vec F S6144 .f32) (ix : IVec S16 32) (v : Vec F S16 .f32) : Vec F S6144 .f32 :=
  (List.finRange 16).foldl (fun g l => fun j =>
    if (j 0).val = (ix (ValueIdx.ix1 l)).toNat then Elt.idxAdd .f32 (g j) (v (ValueIdx.ix1 l)) else g j) acc

/-- Words `16 k …` of the tile's molecule indices. -/
def lanes (idx : Vec F S10000 .i32) (k : Fin k1_t2_loop.trips) : Vec F S16 .i32 := fun x =>
  idx (ValueIdx.ix1 ⟨16 * k.val + (x 0).val, by
    have h := k1_t2_abs.2.1; have hk := k.isLt; have hx : (x 0).val < 16 := (x 0).isLt; omega⟩)

/-- One trip: 16 atoms, their three components one after the other. -/
def trip (idx : Vec F S10000 .i32) (y : Vec F S30000 .f32) (k : Fin k1_t2_loop.trips) (acc : Vec F S6144 .f32) : Vec F S6144 .f32 :=
  scat (scat (scat acc (k1_pay5 (lanes idx k)) (gath y (k1_pay4 k))) (k1_pay7 (lanes idx k)) (gath y (k1_pay6 k)))
    (k1_pay9 (lanes idx k)) (gath y (k1_pay8 k))

/-- The accumulator before trip `n`. -/
def accAt (idx : Vec F S10000 .i32) (y : Vec F S30000 .f32) : ℕ → Vec F S6144 .f32
  | 0 => fun _ => k1_pay1 (ValueIdx.ix1 0)
  | n + 1 => if h : n < k1_t2_loop.trips then trip idx y ⟨n, h⟩ (accAt idx y n) else accAt idx y n

theorem accAt_zero (idx : Vec F S10000 .i32) (y : Vec F S30000 .f32) : accAt idx y 0 = fun _ => k1_pay1 (ValueIdx.ix1 0) := rfl

theorem accAt_succ (idx : Vec F S10000 .i32) (y : Vec F S30000 .f32) (k : Fin k1_t2_loop.trips) :
    accAt idx y (k.val + 1) = trip idx y k (accAt idx y k.val) := dif_pos k.isLt

-- a fold of 625 trips is not to be unfolded by computation
attribute [irreducible] accAt

/-- Tile `w`'s slice of the molecule indices, and of the flattened per-atom values. -/
def idxOf (iv : Vec F S320000 .i32) (w : Fin 32) : Vec F S10000 .i32 := fun a =>
  iv (ValueIdx.ix1 ⟨10000 * w.val + (a 0).val, by have := w.isLt; have ha : (a 0).val < 10000 := (a 0).isLt; omega⟩)
def yOf (yv : Vec F S960000 .f32) (w : Fin 32) : Vec F S30000 .f32 := fun a =>
  yv (ValueIdx.ix1 ⟨30000 * w.val + (a 0).val, by have := w.isLt; have ha : (a 0).val < 30000 := (a 0).isLt; omega⟩)

/-- The array of the tiles' partial sums, one row per tile. -/
def tilesOut (iv : Vec F S320000 .i32) (yv : Vec F S960000 .f32) : Vec F S32x6144 .f32 := fun j =>
  accAt (idxOf iv (j 0)) (yOf yv (j 0)) k1_t2_loop.trips (ValueIdx.ix1 (j 1))

/-! ## The machine's indexed load and store are these -/

theorem loadIdx_eq (y : Vec F S30000 .f32) (ix : IVec S16 32) (h : ∀ a x, ((![ix] : Fin 1 → IVec S16 32) a x).toNat < S30000.size a) :
    loadIdx y ![ix] h = gath y ix := by
  funext x
  unfold loadIdx gath
  refine congrArg y (funext fun a => Fin.ext ?_)
  obtain rfl : a = 0 := Fin.eq_zero a
  exact (Nat.mod_eq_of_lt (h 0 x)).symm

/-- One lane of an accumulating store. -/
theorem lane_eq (ix : IVec S16 32) (v : Vec F S16 .f32) (h : ∀ a x, ((![ix] : Fin 1 → IVec S16 32) a x).toNat < S6144.size a)
    (g : Vec F S6144 .f32) (l : Fin 16) :
    (fun j : S6144.Idx => if (∀ a, (j a).val = (idxAt (s := S6144) ![ix] h (ValueIdx.ix1 l) a).val)
        then Elt.idxAdd .f32 (g (idxAt (s := S6144) ![ix] h (ValueIdx.ix1 l))) (v (ValueIdx.ix1 l)) else g j)
      = fun j => if (j 0).val = (ix (ValueIdx.ix1 l)).toNat then Elt.idxAdd .f32 (g j) (v (ValueIdx.ix1 l)) else g j := by
  funext j
  by_cases hj : (j 0).val = (ix (ValueIdx.ix1 l)).toNat
  · have ej : j = idxAt (s := S6144) ![ix] h (ValueIdx.ix1 l) := by
      funext a; obtain rfl : a = 0 := Fin.eq_zero a; exact Fin.ext hj
    rw [if_pos hj, ← ej, if_pos fun _ => rfl]
  · rw [if_neg hj, if_neg fun hall => hj (hall 0)]

theorem storeIdx_eq (acc : Vec F S6144 .f32) (ix : IVec S16 32) (v : Vec F S16 .f32)
    (h : ∀ a x, ((![ix] : Fin 1 → IVec S16 32) a x).toNat < S6144.size a) :
    storeIdx acc ![ix] v (fun _ => 1#1) true h = scat acc ix v := by
  have e : ∀ l : Fin 16, (Shape.ofLane (d := ![16]) l : S16.Idx) = ValueIdx.ix1 l := fun l => by
    funext a; obtain rfl : a = 0 := Fin.eq_zero a; rfl
  have key : ∀ (g : Vec F S6144 .f32) (l : Fin 16),
      (fun j : S6144.Idx => if (∀ a, (j a).val = (idxAt (s := S6144) ![ix] h (Shape.ofLane (d := ![16]) l) a).val)
        then Elt.idxAdd .f32 (g (idxAt (s := S6144) ![ix] h (Shape.ofLane (d := ![16]) l))) (v (Shape.ofLane (d := ![16]) l)) else g j)
      = fun j => if (j 0).val = (ix (ValueIdx.ix1 l)).toNat then Elt.idxAdd .f32 (g j) (v (ValueIdx.ix1 l)) else g j := fun g l => by
    rw [e]; exact lane_eq ix v h g l
  unfold storeIdx scat
  exact congrArg (fun f => List.foldl f acc (List.finRange 16)) (funext fun g => funext fun l => (if_pos rfl).trans (Eq.trans (funext fun j => by dsimp only; rw [if_pos rfl]; congr) (key g l)))

/-! ## The index words -/

theorem iv_toNat (k : Fin k1_t2_loop.trips) : (Scf.iv 0#32 1#32 k.val).toNat = k.val := by
  have h := k1_t2_abs.2.1; have hk := k.isLt
  simp only [Scf.iv, BitVec.toNat_add, BitVec.toNat_mul, BitVec.toNat_ofNat]
  omega

theorem pay4_toNat (k : Fin k1_t2_loop.trips) (x : S16.Idx) : (k1_pay4 k x).toNat = 3 * (16 * k.val + (x 0).val) := by
  have h := k1_t2_abs.2.1; have hk := k.isLt; have hx : (x 0).val < 16 := (x 0).isLt
  show (BitVec.ofNat 32 (0 * 16 + (x 0).val) * 3#32 + ((Scf.iv 0#32 1#32 k.val * 16#32) * 3#32 + 0#32)).toNat = _
  simp only [BitVec.toNat_add, BitVec.toNat_mul, iv_toNat, BitVec.toNat_ofNat]
  omega

theorem pay6_toNat (k : Fin k1_t2_loop.trips) (x : S16.Idx) : (k1_pay6 k x).toNat = 3 * (16 * k.val + (x 0).val) + 1 := by
  have h := k1_t2_abs.2.1; have hk := k.isLt; have hx : (x 0).val < 16 := (x 0).isLt
  show (BitVec.ofNat 32 (0 * 16 + (x 0).val) * 3#32 + ((Scf.iv 0#32 1#32 k.val * 16#32) * 3#32 + 1#32)).toNat = _
  simp only [BitVec.toNat_add, BitVec.toNat_mul, iv_toNat, BitVec.toNat_ofNat]
  omega

theorem pay8_toNat (k : Fin k1_t2_loop.trips) (x : S16.Idx) : (k1_pay8 k x).toNat = 3 * (16 * k.val + (x 0).val) + 2 := by
  have h := k1_t2_abs.2.1; have hk := k.isLt; have hx : (x 0).val < 16 := (x 0).isLt
  show (BitVec.ofNat 32 (0 * 16 + (x 0).val) * 3#32 + ((Scf.iv 0#32 1#32 k.val * 16#32) * 3#32 + 2#32)).toNat = _
  simp only [BitVec.toNat_add, BitVec.toNat_mul, iv_toNat, BitVec.toNat_ofNat]
  omega

theorem pay5_toNat (v : Vec F S16 .i32) (x : S16.Idx) (hv : BitVec.toNat (v x) < 2048) : (k1_pay5 v x).toNat = 3 * BitVec.toNat (v x) := by
  show ((show BitVec 32 from v x) * 3#32 + 0#32).toNat = _
  simp only [BitVec.toNat_add, BitVec.toNat_mul, BitVec.toNat_ofNat]
  omega

theorem pay7_toNat (v : Vec F S16 .i32) (x : S16.Idx) (hv : BitVec.toNat (v x) < 2048) : (k1_pay7 v x).toNat = 3 * BitVec.toNat (v x) + 1 := by
  show ((show BitVec 32 from v x) * 3#32 + 1#32).toNat = _
  simp only [BitVec.toNat_add, BitVec.toNat_mul, BitVec.toNat_ofNat]
  omega

theorem pay9_toNat (v : Vec F S16 .i32) (x : S16.Idx) (hv : BitVec.toNat (v x) < 2048) : (k1_pay9 v x).toNat = 3 * BitVec.toNat (v x) + 2 := by
  show ((show BitVec 32 from v x) * 3#32 + 2#32).toNat = _
  simp only [BitVec.toNat_add, BitVec.toNat_mul, BitVec.toNat_ofNat]
  omega

/-- Each of the six range checks passes. -/
theorem chk_load (k : Fin k1_t2_loop.trips) : k1_chk1 (k1_pay4 k) ∧ k1_chk3 (k1_pay6 k) ∧ k1_chk5 (k1_pay8 k) := by
  have h := k1_t2_abs.2.1; have hk := k.isLt
  refine ⟨fun a x => ?_, fun a x => ?_, fun a x => ?_⟩ <;> obtain rfl : a = 0 := Fin.eq_zero a <;> have hx : (x 0).val < 16 := (x 0).isLt
  · show (k1_pay4 k x).toNat < 30000; rw [pay4_toNat]; omega
  · show (k1_pay6 k x).toNat < 30000; rw [pay6_toNat]; omega
  · show (k1_pay8 k x).toNat < 30000; rw [pay8_toNat]; omega

theorem chk_store (v : Vec F S16 .i32) (hv : ∀ x, BitVec.toNat (v x) < 2048) : k1_chk2 (k1_pay5 v) ∧ k1_chk4 (k1_pay7 v) ∧ k1_chk6 (k1_pay9 v) := by
  refine ⟨fun a x => ?_, fun a x => ?_, fun a x => ?_⟩ <;> obtain rfl : a = 0 := Fin.eq_zero a <;> have hx := hv x
  · show (k1_pay5 v x).toNat < 6144; rw [pay5_toNat v x hx]; omega
  · show (k1_pay7 v x).toNat < 6144; rw [pay7_toNat v x hx]; omega
  · show (k1_pay9 v x).toNat < 6144; rw [pay9_toNat v x hx]; omega

end Cert.KernelIdeal.Run

end
-- ==== Proof.KernelIdeal.Tile.lean ====
/-
  The SparseCore kernel's task on one tile: the two slices fetched, the accumulator zeroed, 625 trips of three
  accumulating indexed stores, the accumulator written out as the tile's row. What it leaves is stated as a fold.
-/
module

public import proofs.«01_k».proof.Proof.KernelIdeal.Base
public import proofs.«01_k».proof.Proof.KernelIdeal.TileVal
public import Idealize.ShloMosaic.Lib.Transfers
public import Idealize.ShloMosaic.Lib.Exec
public import Idealize.ShloMosaic.Lib.Writes
public import Idealize.ShloMosaic.Lib.Pipeline.ValueKit
public import Idealize.ShloMosaic.Lib.Pipeline.Value
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.SparseCore.Cfg (HIx mem_ownCells ownSems0 ownBufs ownRefs ownCells)
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## The tile's memrefs -/

-- spelt as the body table passes them, so that the terms are the printed ones
local notation "yV" => (Memref.whole Cert.KernelIdeal.main_v3_scv : Memref Cert.KernelIdeal.sig Kind.scVector Space.hbm Cert.KernelIdeal.S960000 EltTy.f32)
local notation "iV" => (Memref.whole Cert.KernelIdeal.main_arg1_scv : Memref Cert.KernelIdeal.sig Kind.scVector Space.hbm Cert.KernelIdeal.S320000 EltTy.i32)
local notation "oV" => (Memref.whole Cert.KernelIdeal.main_v4_scv : Memref Cert.KernelIdeal.sig Kind.scVector Space.hbm Cert.KernelIdeal.S32x6144 EltTy.f32)
local notation "sY" => (Memref.whole Cert.KernelIdeal.cc1_scratch0 : Memref Cert.KernelIdeal.sig Kind.scVector Space.vmem Cert.KernelIdeal.S30000 EltTy.f32)
local notation "sI" => (Memref.whole Cert.KernelIdeal.cc1_scratch1 : Memref Cert.KernelIdeal.sig Kind.scVector Space.vmem Cert.KernelIdeal.S10000 EltTy.i32)
local notation "sA" => (Memref.whole Cert.KernelIdeal.cc1_scratch2 : Memref Cert.KernelIdeal.sig Kind.scVector Space.vmem Cert.KernelIdeal.S6144 EltTy.f32)

section Tile

variable (d : Dev nD) (L : grid1.Coords)

abbrev cV (L : grid1.Coords) : Fin τ.nSC := (L 0).castLE hcore1
abbrev jV (L : grid1.Coords) : Fin τ.nSub := (L 1).castLE hsub1

abbrev yLoc (d : Dev nD) : Loc nD τ sig := (SparseCore.T d).loc main_v3
abbrev iLoc (d : Dev nD) : Loc nD τ sig := (SparseCore.T d).loc main_arg1
abbrev oLoc (d : Dev nD) : Loc nD τ sig := (SparseCore.T d).loc main_v4

/-- The tile's slices, as the program slices them. -/
abbrev iSl (L : grid1.Coords) : Memref sig .scVector .hbm S10000 .i32 := (iV).slice (Rect.unit (s := S320000) (k1_off1 L) S10000.size (k1_off1_inb L)) (fun _ => rfl)
abbrev ySl (L : grid1.Coords) : Memref sig .scVector .hbm S30000 .f32 := (yV).slice (Rect.unit (s := S960000) (k1_off2 L) S30000.size (k1_off2_inb L)) (fun _ => rfl)
abbrev oSl (L : grid1.Coords) : Memref sig .scVector .hbm S6144 .f32 :=
  ((oV).slice (Rect.unit (s := S32x6144) (k1_off5 L) S1x6144.size (k1_off5_inb L)) (fun _ => rfl)).squeeze S6144 squeezes_S1x6144_S6144

/-- The tile's number: twice its subcore plus its core. -/
def wid (L : grid1.Coords) : Fin 32 := ⟨2 * (L 1).val + (L 0).val, by
  have h0 : (L 0).val < 2 := (L 0).isLt; have h1 : (L 1).val < 16 := (L 1).isLt; omega⟩

abbrev iPts (f : Buf (Elt F) (iLoc d)) : sProp 𝕄 := iLoc d ↦[((iSl L).view.set : Finset S320000.Idx)]{fullShare} f
abbrev yPts (f : Buf (Elt F) (yLoc d)) : sProp 𝕄 := yLoc d ↦[((ySl L).view.set : Finset S960000.Idx)]{fullShare} f
abbrev oPts (f : Buf (Elt F) (oLoc d)) : sProp 𝕄 := oLoc d ↦[((oSl L).view.set : Finset S32x6144.Idx)]{fullShare} f

abbrev cIcell (c : Fin τ.nSC) (i : Fin τ.nSub) : GSem nD τ sig := (V d c i, .dma cc1_scoped0.sem)
abbrev cYcell (c : Fin τ.nSC) (i : Fin τ.nSub) : GSem nD τ sig := (V d c i, .dma cc1_scoped1.sem)
abbrev cOcell (c : Fin τ.nSC) (i : Fin τ.nSub) : GSem nD τ sig := (V d c i, .dma cc1_scoped2.sem)

/-- The tile's three counters among its own. -/
theorem ownSems0_V :
    (ownSems0 (V d (cV L) (jV L)) : sProp 𝕄)
      = iprop(semVal (cIcell d (cV L) (jV L)) 0 ∗ semVal (cYcell d (cV L) (jV L)) 0 ∗ semVal (cOcell d (cV L) (jV L)) 0
          ∗ bigSep ((((ownCells (V d (cV L) (jV L))).erase (cIcell d (cV L) (jV L))).erase (cYcell d (cV L) (jV L))).erase (cOcell d (cV L) (jV L)))
              fun g => semVal g 0) := by
  unfold SparseCore.Cfg.ownSems0
  rw [SparseCore.bigSep_erase' ((mem_ownCells (g := cIcell d (cV L) (jV L))).mpr ⟨rfl, by
      show (SemLoc.dma cc1_scoped0.sem : SemLoc sig).isScoped .scVector = true; decide⟩),
    SparseCore.bigSep_erase' (Finset.mem_erase.mpr ⟨by simp [cIcell, cYcell]; decide, (mem_ownCells (g := cYcell d (cV L) (jV L))).mpr ⟨rfl, by
      show (SemLoc.dma cc1_scoped1.sem : SemLoc sig).isScoped .scVector = true; decide⟩⟩),
    SparseCore.bigSep_erase' (Finset.mem_erase.mpr ⟨by simp [cYcell, cOcell]; decide, Finset.mem_erase.mpr ⟨by simp [cIcell, cOcell]; decide,
      (mem_ownCells (g := cOcell d (cV L) (jV L))).mpr ⟨rfl, by show (SemLoc.dma cc1_scoped2.sem : SemLoc sig).isScoped .scVector = true; decide⟩⟩⟩)]

/-- The tile's three scratch buffers among its own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable (iv : Vec F S320000 .i32) (yv : Vec F S960000 .f32)

/-- What the first loop has done before trip `k`: the first `16 k` words of the accumulator zero. -/
def inv1 (k : Nat) (_ : BitVec 32) : sProp 𝕄 :=
  iprop(∃ g : Vec F S6144 .f32, ⌜∀ j : S6144.Idx, (j 0).val < 16 * k → g j = k1_pay1 (ValueIdx.ix1 0)⌝
    ∗ ((sA).view.loc (V d (cV L) (jV L)) ↦{fullShare} g))

/-- What the second loop has done before trip `k`. -/
def inv2 (k : Nat) (_ : BitVec 32) : sProp 𝕄 :=
  iprop(((sI).view.loc (V d (cV L) (jV L)) ↦{fullShare} (idxOf iv (wid L) : Vec F S10000 .i32))
    ∗ ((sY).view.loc (V d (cV L) (jV L)) ↦{fullShare} (yOf yv (wid L) : Vec F S30000 .f32))
    ∗ ((sA).view.loc (V d (cV L) (jV L)) ↦{fullShare} accAt (idxOf iv (wid L)) (yOf yv (wid L)) k))

/-- The scratch buffers' points-to at the spellings the rules ask for. -/
theorem pts_sY (f : Buf (Elt F) ((V d (cV L) (jV L)).loc cc1_scratch0)) :
    ((sY).view.loc (V d (cV L) (jV L)) ↦{fullShare} f : sProp 𝕄)
      = (((sY).access (.whole S30000)).loc (V d (cV L) (jV L)) ↦[Finset.univ]{fullShare} f) := rfl

theorem pts_sA (f : Buf (Elt F) ((V d (cV L) (jV L)).loc cc1_scratch2)) :
    ((sA).view.loc (V d (cV L) (jV L)) ↦{fullShare} f : sProp 𝕄)
      = (((sA).access (.whole S6144)).loc (V d (cV L) (jV L)) ↦[((sA).access (.whole S6144)).set]{fullShare} f) := by
  rw [show ((sA).access (.whole S6144)).set = Finset.univ from Memref.set_access_whole (cc1_scratch2 : Ref sig .scVector)]

/-- Storing `w` over the first words after `16 k` extends the zero prefix. -/
theorem zero_step (k : Fin k1_t1_loop.trips) (g : Vec F S6144 .f32) (hg : ∀ j : S6144.Idx, (j 0).val < 16 * k.val → g j = k1_pay1 (ValueIdx.ix1 0))
    (j : S6144.Idx) (hj : (j 0).val < 16 * (k.val + 1)) :
    ((sA).view.writes (Elt F) g [⟨Rect.unit (s := S6144) (k1_off3 k) S16.size (k1_off3_inb k), k1_pay1⟩] : Vec F S6144 .f32) j = k1_pay1 (ValueIdx.ix1 0) := by
  have ho : k1_off3 k 0 = 16 * k.val := by rw [k1_off3_eq]; rfl
  by_cases h : (j 0).val < 16 * k.val
  · exact ((sA).view.read_writes_cons_miss_of_axis g _ [] j 0 (16 * k.val) 16 ho rfl rfl (.inl h)).trans (hg j h)
  · refine ((sA).view.read_writes_cons_hit_of_coords g (Rect.unit (s := S6144) (k1_off3 k) S16.size (k1_off3_inb k)) k1_pay1 []
      (ValueIdx.ix1 (⟨(j 0).val - 16 * k.val, by omega⟩ : Fin 16)) j fun a => ?_)
    obtain rfl : a = 0 := Fin.eq_zero a
    show (j 0).val = k1_off3 k 0 + 1 * ((j 0).val - 16 * k.val)
    rw [ho]; omega

/-- One trip of the first loop. -/
theorem step1 (k : Fin k1_t1_loop.trips) (s0 : BitVec 32) :
    inv1 d L k.val s0 ⊢ wp frame (wpE (defs₀ (F := F)) 𝒱₀ (V d (cV L) (jV L)) none) Set.univ
      (k1_t1_body L yV (Memref.isWhole_whole _) iV (Memref.isWhole_whole _) oV (Memref.isWhole_whole _)
            sY (Memref.isWhole_whole _) sI (Memref.isWhole_whole _) sA (Memref.isWhole_whole _) cc1_scoped0 cc1_scoped1 cc1_scoped2 k s0)
      fun s1 => (inv1 d L (k.val + 1) s1 : sProp 𝕄) := by
  unfold inv1 k1_t1_body
  iintro ⟨%g, %hg, Hsa⟩
  sl_exec
  sl_step
  iexists _
  isplitr
  · ipureintro; exact zero_step k g hg
  · iexact Hsa

/-- What the index load of a trip reads. -/
theorem load_lanes (idx : Vec F S10000 .i32) (k : Fin k1_t2_loop.trips) :
    (sI).view.readAt (Elt F) (Rect.unit (s := S10000) (k1_off4 k) S16.size (k1_off4_inb k)).toLoadRect idx = lanes idx k := by
  have ho : k1_off4 k 0 = 16 * k.val := by rw [k1_off4_eq]; rfl
  funext x
  rw [View.readAt_apply]
  refine congrArg idx (funext fun a => Fin.ext ?_)
  obtain rfl : a = 0 := Fin.eq_zero a
  show k1_off4 k 0 + 1 * (x 0).val = 16 * k.val + (x 0).val
  rw [ho, Nat.one_mul]

theorem lanes_lt (hidx : ∀ a, BitVec.toNat (iv a) < 2048) (w : Fin 32) (k : Fin k1_t2_loop.trips) (x : S16.Idx) :
    BitVec.toNat (lanes (idxOf iv w) k x) < 2048 := hidx _

/-- One accumulating store onto the accumulator held whole. -/
theorem write_scat (acc : Vec F S6144 .f32) (ix : IVec S16 32) (v : Vec F S16 .f32) (h : ∀ a x, ((![ix] : Fin 1 → IVec S16 32) a x).toNat < S6144.size a) :
    ((sA).access (.whole S6144)).write (Elt F) acc (storeIdx (((sA).access (.whole S6144)).read (Elt F) acc) ![ix] v (fun _ => 1#1) true h) Finset.univ
      = scat acc ix v := by
  refine (Memref.write_access_whole_univ (Elt F) (cc1_scratch2 : Ref sig .scVector) _ _).trans ?_
  rw [← storeIdx_eq acc ix v h]
  exact congrArg (fun f : Vec F S6144 .f32 => storeIdx f ![ix] v (fun _ => 1#1) true h) (Memref.read_access_whole (Elt F) (cc1_scratch2 : Ref sig .scVector) acc)

theorem read_gath (y : Vec F S30000 .f32) (ix : IVec S16 32) (h : ∀ a x, ((![ix] : Fin 1 → IVec S16 32) a x).toNat < S30000.size a) :
    loadIdx (((sY).access (.whole S30000)).read (Elt F) y) ![ix] h = gath y ix := by
  rw [← loadIdx_eq y ix h]
  exact congrArg (fun f : Vec F S30000 .f32 => loadIdx f ![ix] h) (Memref.read_access_whole (Elt F) (cc1_scratch0 : Ref sig .scVector) y)

/-- One trip of the second loop. -/
theorem step2 (hidx : ∀ a, BitVec.toNat (iv a) < 2048) (k : Fin k1_t2_loop.trips) (s0 : BitVec 32) :
    inv2 d L iv yv k.val s0 ⊢ wp frame (wpE (defs₀ (F := F)) 𝒱₀ (V d (cV L) (jV L)) none) Set.univ
      (k1_t2_body L yV (Memref.isWhole_whole _) iV (Memref.isWhole_whole _) oV (Memref.isWhole_whole _)
            sY (Memref.isWhole_whole _) sI (Memref.isWhole_whole _) sA (Memref.isWhole_whole _) cc1_scoped0 cc1_scoped1 cc1_scoped2 k s0)
      fun s1 => (inv2 d L iv yv (k.val + 1) s1 : sProp 𝕄) := by
  obtain ⟨h1, h3, h5⟩ := chk_load k
  obtain ⟨h2, h4, h6⟩ := chk_store (F := F) (lanes (idxOf iv (wid L)) k) (lanes_lt iv hidx (wid L) k)
  have hacc : accAt (idxOf iv (wid L)) (yOf yv (wid L)) (k.val + 1) = trip (idxOf iv (wid L)) (yOf yv (wid L)) k (accAt (idxOf iv (wid L)) (yOf yv (wid L)) k.val) :=
    accAt_succ _ _ k
  unfold inv2 k1_t2_body
  rw [hacc]
  unfold trip
  generalize accAt (idxOf iv (wid L)) (yOf yv (wid L)) k.val = acc
  iintro ⟨Hsi, Hsy, Hsa⟩
  sl_exec
  rw [load_lanes]
  ihave Hsy := (Entails.of_eq (pts_sY (F := F) d L _)) $$ Hsy
  iapply (SparseCore.wp_vectorLoadIdx 𝒱₀ (V d (cV L) (jV L)) none Set.univ (s := S30000) (e := .f32) (base := sY) (S := Finset.univ) (Finset.subset_univ _)) $$ Hsy
  iintro Hsy
  rw [read_gath]
  sl_exec
  ihave Hsa := (Entails.of_eq (pts_sA (F := F) d L _)) $$ Hsa
  iapply (SparseCore.wp_vectorStoreIdx 𝒱₀ (V d (cV L) (jV L)) none Set.univ (s := S6144) (e := .f32) (base := sA)) $$ Hsa
  iintro Hsa
  rw [write_scat]
  sl_exec
  iapply (SparseCore.wp_vectorLoadIdx 𝒱₀ (V d (cV L) (jV L)) none Set.univ (s := S30000) (e := .f32) (base := sY) (S := Finset.univ) (Finset.subset_univ _)) $$ Hsy
  iintro Hsy
  rw [read_gath]
  sl_exec
  iapply (SparseCore.wp_vectorStoreIdx 𝒱₀ (V d (cV L) (jV L)) none Set.univ (s := S6144) (e := .f32) (base := sA)) $$ Hsa
  iintro Hsa
  rw [write_scat]
  sl_exec
  iapply (SparseCore.wp_vectorLoadIdx 𝒱₀ (V d (cV L) (jV L)) none Set.univ (s := S30000) (e := .f32) (base := sY) (S := Finset.univ) (Finset.subset_univ _)) $$ Hsy
  iintro Hsy
  rw [read_gath]
  sl_exec
  iapply (SparseCore.wp_vectorStoreIdx 𝒱₀ (V d (cV L) (jV L)) none Set.univ (s := S6144) (e := .f32) (base := sA)) $$ Hsa
  iintro Hsa
  rw [write_scat]
  ihave Hsy := (Entails.of_eq (pts_sY (F := F) d L _).symm) $$ Hsy
  ihave Hsa := (Entails.of_eq (pts_sA (F := F) d L _).symm) $$ Hsa
  sl_exec
  sl_step
  isplitl [Hsi]; · iexact Hsi
  isplitl [Hsy]; · iexact Hsy
  iexact Hsa

/-- What the two fetches bring. -/
theorem fetch_i (fi : Vec F S10000 .i32) :
    (sI).view.write (Elt F) fi ((iSl L).view.read (Elt F) iv) Finset.univ = (idxOf iv (wid L) : Vec F S10000 .i32) := by
  have ho : k1_off1 L 0 = 20000 * (L 1).val + 10000 * (L 0).val := by rw [k1_off1_eq]; rfl
  refine (View.write_whole_univ (cc1_scratch1 : Ref sig .scVector) _ _).trans (funext fun x => congrArg iv (funext fun a => Fin.ext ?_))
  obtain rfl : a = 0 := Fin.eq_zero a
  show k1_off1 L 0 + 1 * (x 0).val = 10000 * (2 * (L 1).val + (L 0).val) + (x 0).val
  rw [ho]; omega

theorem fetch_y (fy : Vec F S30000 .f32) :
    (sY).view.write (Elt F) fy ((ySl L).view.read (Elt F) yv) Finset.univ = (yOf yv (wid L) : Vec F S30000 .f32) := by
  have ho : k1_off2 L 0 = 60000 * (L 1).val + 30000 * (L 0).val := by rw [k1_off2_eq]; rfl
  refine (View.write_whole_univ (cc1_scratch0 : Ref sig .scVector) _ _).trans (funext fun x => congrArg yv (funext fun a => Fin.ext ?_))
  obtain rfl : a = 0 := Fin.eq_zero a
  show k1_off2 L 0 + 1 * (x 0).val = 30000 * (2 * (L 1).val + (L 0).val) + (x 0).val
  rw [ho]; omega

/-- Where the row slice places a word. -/
theorem oSl_emb (x : S6144.Idx) : ((oSl L).view.emb x : S32x6144.Idx) = ValueIdx.ix2 (wid L) (x 0) := by
  have ho : k1_off5 L = ![2 * (L 1).val + (L 0).val, 0] := k1_off5_eq L
  have hc : ∀ y : S1x6144.Idx, ((Rect.unit (s := S32x6144) (k1_off5 L) S1x6144.size (k1_off5_inb L)).emb y) = ValueIdx.ix2 (wid L) (y 1) := fun y => by
    refine Rect.emb_eq_of_coords _ _ _ fun a => ?_
    fin_cases a
    · show 2 * (L 1).val + (L 0).val = k1_off5 L 0 + 1 * (y 0).val
      have h0 : (y 0).val < 1 := (y 0).isLt
      rw [ho]; show _ = 2 * (L 1).val + (L 0).val + 1 * (y 0).val; omega
    · show (y 1).val = k1_off5 L 1 + 1 * (y 1).val
      rw [ho]; show _ = 0 + 1 * (y 1).val; omega
  refine (hc (Shape.reshapeEquiv squeezes_S1x6144_S6144.numel_eq x)).trans ?_
  rw [show Shape.reshapeEquiv squeezes_S1x6144_S6144.numel_eq x = (Fin.cons ⟨0, Nat.one_pos⟩ x : S1x6144.Idx) from Shape.reshapeEquiv_cons_one _ x]
  rfl

/-- A view written whole reads what was written, at the place of each of its words. -/
theorem writes_whole_emb {Val : EltTy → Type} {κ : Kind} {sp : Space} {s : Shape} {e : EltTy} (v : View sig κ sp s e) (f : v.ty.Contents Val)
    (w : s.Idx → Val e) (x : s.Idx) :
    v.writes Val f [⟨Rect.whole s, w⟩] (v.emb x) = _root_.cast (congrArg Val v.elt_eq.symm) (w x) := by
  have h := v.read_writes_cons_emb f (Rect.whole s) w [] x
  rw [show (Rect.whole s).emb x = x from Rect.emb_eq_of_coords _ _ _ fun a => by
    show (x a).val = 0 + 1 * (x a).val; omega, View.read_apply] at h
  exact (cast_eq_iff_heq.mpr ((cast_heq _ _).symm.trans (heq_of_eq h)).symm).symm

/-- The row the tile writes is its row of the array of partial sums. -/
theorem row_out (ov : Vec F S32x6144 .f32) (w : Vec F S6144 .f32) (hw : w = accAt (idxOf iv (wid L)) (yOf yv (wid L)) k1_t2_loop.trips) :
    ((oSl L).view.loc (V d (cV L) (jV L)) ↦[(oSl L).view.set]{fullShare}
        (oSl L).view.writes (Elt F) ov [⟨Rect.whole S6144, w⟩] : sProp 𝕄)
      = oPts d L (tilesOut iv yv) := by
  refine pointsTo_congr fun i hi => ?_
  obtain ⟨x, -, rfl⟩ := Finset.mem_map.mp hi
  refine (writes_whole_emb (Val := Elt F) (oSl L).view ov w x).trans ?_
  refine Eq.trans (b := tilesOut iv yv (ValueIdx.ix2 (wid L) (x 0))) ?_ (congrArg (tilesOut iv yv) (oSl_emb L x).symm)
  rw [hw]
  exact congrArg (accAt (idxOf iv (wid L)) (yOf yv (wid L)) k1_t2_loop.trips) (ValueIdx.eq_ix1 x)

set_option maxHeartbeats 2000000 in
/-- THE TASK: holding its slices of the molecule indices, of the per-atom values and its row of the result, tile `L` ends
    with its row at the fold of its trips. -/
theorem tile_body (hF : (K (F := F)).Facts) (hidx : ∀ a, BitVec.toNat (iv a) < 2048) (ov : Vec F S32x6144 .f32)
    (O : CellTallies nD τ sig (HIx 1)) (W : Waits sig (HIx 1)) (hO : ∀ g, O g none = 0) :
    iprop(levAts (K (F := F)).L (K (F := F)).lev ∗ emp ∗ (iPts d L iv ∗ yPts d L yv ∗ oPts d L ov)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_scatter_body L yV (Memref.isWhole_whole _) iV (Memref.isWhole_whole _) oV (Memref.isWhole_whole _)
            sY (Memref.isWhole_whole _) sI (Memref.isWhole_whole _) sA (Memref.isWhole_whole _) cc1_scoped0 cc1_scoped1 cc1_scoped2)
          fun _ => iprop((iPts d L iv ∗ yPts d L yv ∗ oPts d L (tilesOut iv yv)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_scatter_body_eq_skeleton]; unfold cc1__sc_scatter_body_skel
  rw [(K (F := F)).scopedBufs_V hF d (cV L) (jV L), SparseCore.Cfg.scopedSems0_V (Val := Elt F) d (cV L) (jV L), ownSems0_V, ownBufs_V]
  iintro ⟨#Hlv, -, ⟨Hi, Hy, Ho⟩, ⟨⟨%fy, Hsy⟩, ⟨%fi, Hsi⟩, ⟨%fa, Hsa⟩, Hbufs⟩, ⟨HsemI, HsemY, HsemO, Hsems⟩, HO⟩
  ihave Hmw := ((K (F := F)).mayWaits_none (thr := V d (cV L) (jV L)) hO) $$ Hlv
  ihave Hi' := (Entails.of_eq (show iPts d L iv = ((iSl L).view.loc (V d (cV L) (jV L)) ↦[(iSl L).view.set]{fullShare} iv : sProp 𝕄) from rfl)) $$ Hi
  ihave Hy' := (Entails.of_eq (show yPts d L yv = ((ySl L).view.loc (V d (cV L) (jV L)) ↦[(ySl L).view.set]{fullShare} yv : sProp 𝕄) from rfl)) $$ Hy
  ihave Ho' := (Entails.of_eq (show oPts d L ov = ((oSl L).view.loc (V d (cV L) (jV L)) ↦[(oSl L).view.set]{fullShare} ov : sProp 𝕄) from rfl)) $$ Ho
  ihave Hsi' := (Entails.of_eq (show ((V d (cV L) (jV L)).loc cc1_scratch1 ↦{fullShare} fi : sProp 𝕄) = ((sI).view.loc (V d (cV L) (jV L)) ↦{fullShare} fi : sProp 𝕄) from rfl)) $$ Hsi
  ihave Hsy' := (Entails.of_eq (show ((V d (cV L) (jV L)).loc cc1_scratch0 ↦{fullShare} fy : sProp 𝕄) = ((sY).view.loc (V d (cV L) (jV L)) ↦{fullShare} fy : sProp 𝕄) from rfl)) $$ Hsy
  ihave Hsa' := (Entails.of_eq (show ((V d (cV L) (jV L)).loc cc1_scratch2 ↦{fullShare} fa : sProp 𝕄) = ((sA).view.loc (V d (cV L) (jV L)) ↦{fullShare} fa : sProp 𝕄) from rfl)) $$ Hsa
  sl_exec
  sl_for (inv1 d L) $$ [Hsa']
  case region => exact fun k s0 => step1 d L k s0
  · unfold inv1
    iexists fa
    isplitr
    · ipureintro; intro j hj; omega
    · iexact Hsa'
  iintro %_ HI
  unfold inv1
  icases HI with ⟨%g, %hg, Hsa⟩
  obtain rfl : g = accAt (idxOf iv (wid L)) (yOf yv (wid L)) 0 := funext fun j => (hg j (by
    have ht : Scf.trips k1_t1_loop.lb k1_t1_loop.ub k1_t1_loop.st = 384 := by decide
    have hj : (j 0).val < 6144 := (j 0).isLt
    omega)).trans (congrFun (accAt_zero _ _) j).symm
  ihave Hsi := (Entails.of_eq (show (((sI).view.loc (V d (cV L) (jV L)) ↦{fullShare} (sI).view.write (Elt F) fi (tile_body.sl.dma0 L iv) Finset.univ : sProp 𝕄) = _)
    from congrArg (fun f => ((sI).view.loc (V d (cV L) (jV L)) ↦{fullShare} f : sProp 𝕄)) (fetch_i L iv fi))) $$ Hsi'
  ihave Hsy := (Entails.of_eq (show (((sY).view.loc (V d (cV L) (jV L)) ↦{fullShare} (sY).view.write (Elt F) fy (tile_body.sl.dma0_1 L yv) Finset.univ : sProp 𝕄) = _)
    from congrArg (fun f => ((sY).view.loc (V d (cV L) (jV L)) ↦{fullShare} f : sProp 𝕄)) (fetch_y L yv fy))) $$ Hsy'
  sl_exec
  sl_for (inv2 d L iv yv) $$ [Hsi Hsy Hsa]
  case region => exact fun k s0 => step2 d L iv yv hidx k s0
  · unfold inv2
    isplitl [Hsi]; · iexact Hsi
    isplitl [Hsy]; · iexact Hsy
    iexact Hsa
  iintro %_ HI
  unfold inv2
  icases HI with ⟨Hsi, Hsy, Hsa⟩
  sl_exec
  ihave Ho := (Entails.of_eq (row_out d L iv yv ov (tile_body.sl.dma0_2 L iv yv) rfl)) $$ Ho'
  sl_step
  isplitl [Hi' Hy' Ho]
  · isplitl [Hi']; · iexact Hi'
    isplitl [Hy']; · iexact Hy'
    iexact Ho
  isplitl [Hsy Hsi Hsa Hbufs]
  · isplitl [Hsy]; · iexists _; iexact Hsy
    isplitl [Hsi]; · iexists _; iexact Hsi
    isplitl [Hsa]; · iexists _; iexact Hsa
    iexact Hbufs
  isplitl [HsemI HsemY HsemO Hsems]
  · isplitl [HsemI]; · iexact HsemI
    isplitl [HsemY]; · iexact HsemY
    isplitl [HsemO]; · iexact HsemO
    iexact Hsems
  iexists _; isplitr
  rotate_left
  · iexact HO
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp

end Tile

end Cert.KernelIdeal.Run

end
-- ==== Proof.KernelIdeal.Mlp.lean ====
/-
  The first TensorCore pipeline (the two-layer perceptron on blocks of 2000 atoms): what its body leaves, its proof data
  over any contents of the device's buffers, and the array it leaves as ONE function of its five operands.
-/
module

public import proofs.«01_k».proof.Proof.KernelIdeal.Base
public import Idealize.ShloMosaic.Lib.Pipeline.ValueKit
public import Idealize.ShloMosaic.Lib.Pipeline.Value
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## What the body leaves -/

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S64x3 := Rect.unit (s := S64x3) ![0, 0] S64x3.size inb_S64x3_S64x3_0_0
abbrev r0_4 : Rect S1x3 := Rect.unit (s := S1x3) ![0, 0] S1x3.size inb_S1x3_S1x3_0_0
abbrev r0_5 : Rect S2000x3 := Rect.unit (s := S2000x3) ![0, 0] S2000x3.size inb_S2000x3_S2000x3_0_0

theorem zeros2 : (![0, 0] : Fin 2 → Nat) = fun _ => 0 := by
  funext a; match a with | ⟨0, _⟩ => rfl | ⟨1, _⟩ => rfl

/-- The one store covers the output's staging buffer. -/
theorem cover0 (p0 : Vec F S2000x3 .f32) (y : S2000x3.Idx) :
    ∃ pc ∈ ([⟨r0_5, p0⟩] : List (View.Piece (Elt F) S2000x3 .f32)), y ∈ pc.1.set :=
  View.cover_of_tiled [⟨r0_5, p0⟩] S2000x3.size (by rfl) y

set_option maxHeartbeats 1000000 in
/-- The body on whole staging buffers: the five inputs are kept, and the output holds the perceptron's values on them. -/
theorem mlp_body (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x3 .f32) (harg4 : arg4.IsWhole)
    (arg5 : Memref sig .tc .vmem S1x3 .f32) (harg5 : arg5.IsWhole) (arg6 : Memref sig .tc .vmem S2000x3 .f32) (harg6 : arg6.IsWhole)
    (x0 : Vec F S2000x128 .f32) (x1 : Vec F S128x64 .f32) (x2 : Vec F S1x64 .f32) (x3 : Vec F S64x3 .f32) (x4 : Vec F S1x3 .f32)
    (R : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x0 x1 x2 x3 x4)) -∗ R ⟨⟩))
      ⊢ wp frame (wpE (defs₀ (F := F)) 𝒱₀ c none) E (cc0__mlp_body i arg1 harg1 arg2 harg2 arg3 harg3 arg4 harg4 arg5 harg5 arg6 harg6) R := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover0 _)).trans ?_
  refine (View.canon_unit_zero zeros2 inb_S2000x3_S2000x3_0_0 _).trans ?_
  congr 1
  · exact View.ld_unit_zero zeros2 inb_S2000x128_S2000x128_0_0 _
  · exact View.ld_unit_zero zeros2 inb_S128x64_S128x64_0_0 _
  · exact View.ld_unit_zero zeros2 inb_S1x64_S1x64_0_0 _
  · exact View.ld_unit_zero zeros2 inb_S64x3_S64x3_0_0 _
  · exact View.ld_unit_zero zeros2 inb_S1x3_S1x3_0_0 _

/-! ## The proof data -/

variable (A : (c : Dev nD) → (b : Ref sig .tc) → Buf (Elt F) ((c : Thread nD τ).loc b))

/-- Window `w`'s block at point `t` of the array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (A c (Pipeline.arrRef spec0 w))

/-- The first pipeline's proof data over the contents `A`: each staging buffer holds its input's block, the output's the
    perceptron's values on the five; the TensorCore owes throughout what it owes before the SparseCore call, its waits
    recorded no higher than the ones before it. -/
def dat0 (c : Dev nD) : Dat τ (Elt F) (HIx 1) ℕ UU ℕ cfg0 c where
  A w := A c (Pipeline.arrRef spec0 w)
  after w t := match w with
    | ⟨0, _⟩ => iblk A c 0 t
    | ⟨1, _⟩ => iblk A c 1 t
    | ⟨2, _⟩ => iblk A c 2 t
    | ⟨3, _⟩ => iblk A c 3 t
    | ⟨4, _⟩ => iblk A c 4 t
    | ⟨5, _⟩ => k0_pay1 (iblk A c 0 t) (iblk A c 1 t) (iblk A c 2 t) (iblk A c 3 t) (iblk A c 4 t)
  Φ _ := Pipeline.scopedRest spec0 c
  q _ := fullShare
  owed _ := (K (F := F)).Otc c 0
  recorded _ := {p | (K (F := F)).lev (SparseCore.T c, p.1) p.2 ≤ 0}

theorem dat0_A (c : Dev nD) (w : Fin cfg0.W) : (dat0 A c).A w = A c (Pipeline.arrRef spec0 w) := by dsimp only [dat0]
theorem after0_0 (c : Dev nD) (t : Fin cfg0.N) : (dat0 A c).after 0 t = iblk A c 0 t := by dsimp only [dat0]
theorem after0_1 (c : Dev nD) (t : Fin cfg0.N) : (dat0 A c).after 1 t = iblk A c 1 t := by dsimp only [dat0]
theorem after0_2 (c : Dev nD) (t : Fin cfg0.N) : (dat0 A c).after 2 t = iblk A c 2 t := by dsimp only [dat0]
theorem after0_3 (c : Dev nD) (t : Fin cfg0.N) : (dat0 A c).after 3 t = iblk A c 3 t := by dsimp only [dat0]
theorem after0_4 (c : Dev nD) (t : Fin cfg0.N) : (dat0 A c).after 4 t = iblk A c 4 t := by dsimp only [dat0]
theorem after0_5 (c : Dev nD) (t : Fin cfg0.N) : (dat0 A c).after 5 t
    = k0_pay1 (iblk A c 0 t) (iblk A c 1 t) (iblk A c 2 t) (iblk A c 3 t) (iblk A c 4 t) := by dsimp only [dat0]

/-- An input's staging buffer holds its block before the body at every point. -/
theorem before0_0 (c : Dev nD) (t : Fin cfg0.N) (d) : (dat0 A c).before 0 t d = iblk A c 0 t :=
  ((dat0 A c).before_in_eq_fetched 0 rfl (fun _ => rfl) (fun _ _ _ => rfl) (fun t => by rw [after0_0]; unfold Dat.blockOf iblk; rw [dat0_A]; try rfl) t d).trans
    (by unfold Dat.fetched Dat.blockOf iblk; rw [dat0_A]; try rfl)
theorem before0_1 (c : Dev nD) (t : Fin cfg0.N) (d) : (dat0 A c).before 1 t d = iblk A c 1 t :=
  ((dat0 A c).before_in_eq_fetched 1 rfl (fun _ => rfl) (fun _ _ _ => rfl) (fun t => by rw [after0_1]; unfold Dat.blockOf iblk; rw [dat0_A]; try rfl) t d).trans
    (by unfold Dat.fetched Dat.blockOf iblk; rw [dat0_A]; try rfl)
theorem before0_2 (c : Dev nD) (t : Fin cfg0.N) (d) : (dat0 A c).before 2 t d = iblk A c 2 t :=
  ((dat0 A c).before_in_eq_fetched 2 rfl (fun _ => rfl) (fun _ _ _ => rfl) (fun t => by rw [after0_2]; unfold Dat.blockOf iblk; rw [dat0_A]; try rfl) t d).trans
    (by unfold Dat.fetched Dat.blockOf iblk; rw [dat0_A]; try rfl)
theorem before0_3 (c : Dev nD) (t : Fin cfg0.N) (d) : (dat0 A c).before 3 t d = iblk A c 3 t :=
  ((dat0 A c).before_in_eq_fetched 3 rfl (fun _ => rfl) (fun _ _ _ => rfl) (fun t => by rw [after0_3]; unfold Dat.blockOf iblk; rw [dat0_A]; try rfl) t d).trans
    (by unfold Dat.fetched Dat.blockOf iblk; rw [dat0_A]; try rfl)
theorem before0_4 (c : Dev nD) (t : Fin cfg0.N) (d) : (dat0 A c).before 4 t d = iblk A c 4 t :=
  ((dat0 A c).before_in_eq_fetched 4 rfl (fun _ => rfl) (fun _ _ _ => rfl) (fun t => by rw [after0_4]; unfold Dat.blockOf iblk; rw [dat0_A]; try rfl) t d).trans
    (by unfold Dat.fetched Dat.blockOf iblk; rw [dat0_A]; try rfl)

/-- What the body is called with at point `t`, window by window, -/
def pre0 (c : Dev nD) (t : Fin cfg0.N) : sProp 𝕄 :=
  iprop((dat0 A c).Φ t.castSucc ∗ (dat0 A c).owesAt (none : HIx 1) t.castSucc
    ∗ (∃ d, owns (c : Thread nD τ) (st0_0 t) fullShare ((dat0 A c).before 0 t d))
    ∗ (∃ d, owns (c : Thread nD τ) (st0_1 t) fullShare ((dat0 A c).before 1 t d))
    ∗ (∃ d, owns (c : Thread nD τ) (st0_2 t) fullShare ((dat0 A c).before 2 t d))
    ∗ (∃ d, owns (c : Thread nD τ) (st0_3 t) fullShare ((dat0 A c).before 3 t d))
    ∗ (∃ d, owns (c : Thread nD τ) (st0_4 t) fullShare ((dat0 A c).before 4 t d))
    ∗ (∃ d, owns (c : Thread nD τ) (st0_5 t) fullShare ((dat0 A c).before 5 t d)))

/-- and what it gives back. -/
def post0 (c : Dev nD) (t : Fin cfg0.N) : sProp 𝕄 :=
  iprop((dat0 A c).Φ t.succ ∗ (dat0 A c).owesAt (none : HIx 1) t.succ
    ∗ owns (c : Thread nD τ) (st0_0 t) fullShare ((dat0 A c).after 0 t)
    ∗ owns (c : Thread nD τ) (st0_1 t) fullShare ((dat0 A c).after 1 t)
    ∗ owns (c : Thread nD τ) (st0_2 t) fullShare ((dat0 A c).after 2 t)
    ∗ owns (c : Thread nD τ) (st0_3 t) fullShare ((dat0 A c).after 3 t)
    ∗ owns (c : Thread nD τ) (st0_4 t) fullShare ((dat0 A c).after 4 t)
    ∗ owns (c : Thread nD τ) (st0_5 t) fullShare ((dat0 A c).after 5 t))

/-- The body at any point. -/
theorem body0 (c : Dev nD) (t : Fin cfg0.N) :
    pre0 A c t ⊢ wp frame (wpE (defs₀ (F := F)) 𝒱₀ c none) Set.univ (bodyAt0 t) (fun _ => post0 A c t) := by
  unfold pre0 post0 bodyAt0
  simp only [before0_0, before0_1, before0_2, before0_3, before0_4]
  rw [show (dat0 A c).Φ t.succ = (dat0 A c).Φ t.castSucc from rfl,
    show (dat0 A c).owesAt (none : HIx 1) t.succ = (dat0 A c).owesAt (none : HIx 1) t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (mlp_body c Set.univ (grid0.coords t) _ _ _ _ _ _ _ _ _ _ _ _ (iblk A c 0 t) (iblk A c 1 t) (iblk A c 2 t) (iblk A c 3 t) (iblk A c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row for the pipeline's body, at the slots of point `t`. -/
theorem row0 (t : Fin cfg0.N) : defs₀ (F := F) .tc cfg0.body (cfg0.bodyArgs t (cfg0.slots t)) = bodyAt0 t := rfl

/-- The body obligation at every point. -/
theorem obl0 (c : Dev nD) : BodyObligation (dat0 A c) defs₀ 𝒱₀ (none : HIx 1) Set.univ := fun t => by
  rw [bigSep_W0, bigSep_W0, row0]
  exact triple_restated (body0 A c t) rfl .rfl fun _ => .rfl

/-! ## The array the pipeline leaves -/

/-- Rows `2000 b …` of the feature array. -/
def xRows (x : Vec F S320000x128 .f32) (b : Fin 160) : Vec F S2000x128 .f32 := fun y =>
  x (ValueIdx.ix2 ⟨2000 * b.val + (y 0).val, by have := b.isLt; have := idx2_lt0 y; omega⟩ ⟨(y 1).val, idx2_lt1 y⟩)

/-- The per-atom result: row `i` is row `i % 2000` of the perceptron on block `i / 2000`. -/
def mlpOut (x : Vec F S320000x128 .f32) (w1 : Vec F S128x64 .f32) (b1 : Vec F S1x64 .f32) (w2 : Vec F S64x3 .f32) (b2 : Vec F S1x3 .f32) :
    Vec F S320000x3 .f32 := fun j =>
  k0_pay1 (xRows x ⟨(j 0).val / 2000, by have := idx2_lt0 j; omega⟩) w1 b1 w2 b2
    (ValueIdx.ix2 ⟨(j 0).val % 2000, Nat.mod_lt _ (by decide)⟩ ⟨(j 1).val, idx2_lt1 j⟩)

/-- The output array at the end of the pipeline. -/
theorem arr0 (c : Dev nD) : (dat0 A c).arrAt 5 cfg0.N
    = mlpOut (A c main_arg0) (A c main_arg2) (A c main_v0) (A c main_arg4) (A c main_v1) := by
  refine (dat0 A c).arrAt_eq_of_covers 5 _ (by decide +kernel) fun t hf y => ?_
  have e0 : ∀ t : Fin cfg0.N, win0_0.index t = ![t.val, 0] := (by decide +kernel : ∀ t : Fin grid0.N, _)
  have e5 : ∀ t : Fin cfg0.N, win0_5.index t = ![t.val, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![0, 0] := (by decide +kernel : ∀ t : Fin grid0.N, _)
  blk_simp
  rw [after0_5]
  have hN : grid0.N = 160 := N_0
  have ht : t.val < 160 := hN ▸ t.isLt
  have h0 : iblk A c 0 t = xRows (A c main_arg0) ⟨t.val, ht⟩ := by
    funext z
    blk_simp [iblk]
    unfold xRows
    congr 1
    blk_ext [e0 t]
  have h1 : iblk A c 1 t = A c main_arg2 := by
    funext z; blk_simp [iblk]; congr 1; blk_ext [e1 t]
  have h2 : iblk A c 2 t = A c main_v0 := by
    funext z; blk_simp [iblk]; congr 1; blk_ext [e2 t]
  have h3 : iblk A c 3 t = A c main_arg4 := by
    funext z; blk_simp [iblk]; congr 1; blk_ext [e3 t]
  have h4 : iblk A c 4 t = A c main_v1 := by
    funext z; blk_simp [iblk]; congr 1; blk_ext [e4 t]
  rw [h0, h1, h2, h3, h4]
  have y0 : ((win0_5.blk t).view.emb y 0).val = 2000 * t.val + (y 0).val := by blk_simp [e5 t]; omega
  have y1 : ((win0_5.blk t).view.emb y 1).val = (y 1).val := by blk_simp [e5 t]
  have hy : (y 0).val < 2000 := (y 0).isLt
  unfold mlpOut
  have hb : (⟨((win0_5.blk t).view.emb y 0).val / 2000, by rw [y0]; omega⟩ : Fin 160) = ⟨t.val, ht⟩ := by
    apply Fin.ext; show _ / 2000 = t.val; rw [y0]; omega
  rw [hb]
  congr 1
  funext a
  match a with
  | ⟨0, _⟩ => apply Fin.ext; show (y 0).val = ((win0_5.blk t).view.emb y 0).val % 2000; rw [y0]; omega
  | ⟨1, _⟩ => apply Fin.ext; show _ = ((win0_5.blk t).view.emb y 1).val; rw [y1]; rfl

end Cert.KernelIdeal.Run

end
-- ==== Proof.KernelIdeal.Regions.lean ====
/-
  The second TensorCore pipeline (one point: the sum of the 32 tiles' rows): its body, its proof data and the array it
  leaves; and both pipelines as regions of `@main`, each a rule about its custom call.
-/
module

public import proofs.«01_k».proof.Proof.KernelIdeal.Mlp
public import Idealize.ShloMosaic.Lib.Pipeline.ValueKit
public import Idealize.ShloMosaic.Lib.Pipeline.Value
public import Idealize.ShloMosaic.Lib.ValueIdxCore

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## The reduction's body -/

abbrev r2_0 : Rect S32x6144 := Rect.unit (s := S32x6144) ![0, 0] S32x6144.size inb_S32x6144_S32x6144_0_0
abbrev r2_1 : Rect S1x6144 := Rect.unit (s := S1x6144) ![0, 0] S1x6144.size inb_S1x6144_S1x6144_0_0

/-- The one store covers the output's staging buffer. -/
theorem cover2 (p0 : Vec F S1x6144 .f32) (y : S1x6144.Idx) :
    ∃ pc ∈ ([⟨r2_1, p0⟩] : List (View.Piece (Elt F) S1x6144 .f32)), y ∈ pc.1.set :=
  View.cover_of_tiled [⟨r2_1, p0⟩] S1x6144.size (by rfl) y

set_option maxHeartbeats 1000000 in
/-- The body on whole staging buffers: the input is kept, and the output holds the sum of its rows. -/
theorem reduce_body (c : Dev nD) (E : Set ℕ)
    (arg0 : Memref sig .tc .vmem S32x6144 .f32) (harg0 : arg0.IsWhole) (arg1 : Memref sig .tc .vmem S1x6144 .f32) (harg1 : arg1.IsWhole)
    (x0 : Vec F S32x6144 .f32) (R : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k2_pay1 x0)) -∗ R ⟨⟩))
      ⊢ wp frame (wpE (defs₀ (F := F)) 𝒱₀ c none) E (cc2__reduce_body arg0 harg0 arg1 harg1) R := by
  simp only [cc2__reduce_body_eq_skeleton]; unfold cc2__reduce_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover2 _)).trans ?_
  refine (View.canon_unit_zero zeros2 inb_S1x6144_S1x6144_0_0 _).trans ?_
  congr 1
  exact View.ld_unit_zero zeros2 inb_S32x6144_S32x6144_0_0 _

/-! ## The proof data -/

variable (A : (c : Dev nD) → (b : Ref sig .tc) → Buf (Elt F) ((c : Thread nD τ).loc b))

/-- Window `w`'s block at point `t` of the array as the pipeline finds it. -/
def iblk2 (c : Dev nD) (w : Fin cfg2.W) (t : Fin cfg2.N) : ((cfg2.win w).xblock (cfg2.grid.coords t)).Idx → Elt F (cfg2.win w).elt :=
  ((cfg2.win w).blk t).view.read (Elt F) (A c (Pipeline.arrRef spec2 w))

/-- The second pipeline's proof data over the contents `A`; the TensorCore owes what it owes after the SparseCore call. -/
def dat2 (c : Dev nD) : Dat τ (Elt F) (HIx 1) ℕ UU ℕ cfg2 c where
  A w := A c (Pipeline.arrRef spec2 w)
  after w t := match w with
    | ⟨0, _⟩ => iblk2 A c 0 t
    | ⟨1, _⟩ => k2_pay1 (iblk2 A c 0 t)
  Φ _ := Pipeline.scopedRest spec2 c
  q _ := fullShare
  owed _ := (K (F := F)).Otc c 1
  recorded _ := {p | (K (F := F)).lev (SparseCore.T c, p.1) p.2 ≤ 8}

theorem dat2_A (c : Dev nD) (w : Fin cfg2.W) : (dat2 A c).A w = A c (Pipeline.arrRef spec2 w) := by dsimp only [dat2]
theorem after2_0 (c : Dev nD) (t : Fin cfg2.N) : (dat2 A c).after 0 t = iblk2 A c 0 t := by dsimp only [dat2]
theorem after2_1 (c : Dev nD) (t : Fin cfg2.N) : (dat2 A c).after 1 t = k2_pay1 (iblk2 A c 0 t) := by dsimp only [dat2]

theorem before2_0 (c : Dev nD) (t : Fin cfg2.N) (d) : (dat2 A c).before 0 t d = iblk2 A c 0 t :=
  ((dat2 A c).before_in_eq_fetched 0 rfl (fun _ => rfl) (fun _ _ _ => rfl) (fun t => by rw [after2_0]; unfold Dat.blockOf iblk2; rw [dat2_A]; try rfl) t d).trans
    (by unfold Dat.fetched Dat.blockOf iblk2; rw [dat2_A]; try rfl)

/-- What the body is called with, window by window, -/
def pre2 (c : Dev nD) (t : Fin cfg2.N) : sProp 𝕄 :=
  iprop((dat2 A c).Φ t.castSucc ∗ (dat2 A c).owesAt (none : HIx 1) t.castSucc
    ∗ (∃ d, owns (c : Thread nD τ) (st2_0 t) fullShare ((dat2 A c).before 0 t d))
    ∗ (∃ d, owns (c : Thread nD τ) (st2_1 t) fullShare ((dat2 A c).before 1 t d)))

/-- and what it gives back. -/
def post2 (c : Dev nD) (t : Fin cfg2.N) : sProp 𝕄 :=
  iprop((dat2 A c).Φ t.succ ∗ (dat2 A c).owesAt (none : HIx 1) t.succ
    ∗ owns (c : Thread nD τ) (st2_0 t) fullShare ((dat2 A c).after 0 t)
    ∗ owns (c : Thread nD τ) (st2_1 t) fullShare ((dat2 A c).after 1 t))

/-- The body at its point. -/
theorem body2 (c : Dev nD) (t : Fin cfg2.N) :
    pre2 A c t ⊢ wp frame (wpE (defs₀ (F := F)) 𝒱₀ c none) Set.univ (bodyAt2 t) (fun _ => post2 A c t) := by
  unfold pre2 post2 bodyAt2
  simp only [before2_0]
  rw [show (dat2 A c).Φ t.succ = (dat2 A c).Φ t.castSucc from rfl,
    show (dat2 A c).owesAt (none : HIx 1) t.succ = (dat2 A c).owesAt (none : HIx 1) t.castSucc from rfl,
    after2_0, after2_1]
  iintro ⟨HΦ, Ho, ⟨%d0, H0⟩, ⟨%d1, H1⟩⟩
  iapply (reduce_body c Set.univ _ _ _ _ (iblk2 A c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row2 (t : Fin cfg2.N) : defs₀ (F := F) .tc cfg2.body (cfg2.bodyArgs t (cfg2.slots t)) = bodyAt2 t := rfl

/-- The body obligation at its point. -/
theorem obl2 (c : Dev nD) : BodyObligation (dat2 A c) defs₀ 𝒱₀ (none : HIx 1) Set.univ := fun t => by
  rw [bigSep_W2, bigSep_W2, row2]
  exact triple_restated (body2 A c t) rfl .rfl fun _ => .rfl

/-- The output array at the end of the pipeline: the sum of the rows. -/
theorem arr2 (c : Dev nD) : (dat2 A c).arrAt 1 cfg2.N = k2_pay1 (F := F) (A c main_v4) := by
  refine (dat2 A c).arrAt_eq_of_covers 1 _ (by decide +kernel) fun t hf y => ?_
  have e0 : ∀ t : Fin cfg2.N, win2_0.index t = ![0, 0] := (by decide +kernel : ∀ t : Fin grid2.N, _)
  have e1 : ∀ t : Fin cfg2.N, win2_1.index t = ![0, 0] := (by decide +kernel : ∀ t : Fin grid2.N, _)
  blk_simp
  rw [after2_1]
  have h0 : iblk2 A c 0 t = A c main_v4 := by
    funext z; blk_simp [iblk2]; congr 1; blk_ext [e0 t]
  rw [h0]
  congr 1
  blk_ext [e1 t]

/-! ## The two regions -/

variable (A' : (c : Dev nD) → (b : Ref sig .tc) → Buf (Elt F) ((c : Thread nD τ).loc b))

/-- Both pipelines' proof data: the first over the contents `A`, the second over `A'`. -/
def pdats : (p : Fin 2) → (c : Dev nD) → Dat τ (Elt F) (HIx 1) ℕ UU ℕ (Pipeline.pin (pcfgs (F := F)) adm p) c
  | ⟨0, _⟩, c => dat0 A c
  | ⟨1, _⟩, c => dat2 A' c

/-- What the TensorCore owes before call `n`, its recorded waits no higher than the calls before. -/
def tcOwes (c : Dev nD) (n : ℕ) : sProp 𝕄 :=
  iprop(∃ W, ⌜(K (F := F)).WBelow (SparseCore.T c) W (8 * n)⌝ ∗ owes (SparseCore.T c) ((K (F := F)).Otc c n) W)

/-- The debts of the handshakes are at the calls' own indices, none at a kernel's. -/
theorem Otc_none (c : Dev nD) (n : ℕ) (g : GSem nD τ sig) : (K (F := F)).Otc (N := 1) c n g none = 0 := by
  by_contra h
  have := SparseCore.Cfg.lev_of_Otc_pos (K := K (F := F)) (Nat.pos_of_ne_zero h)
  simp [SparseCore.Cfg.lev] at this

theorem owesAt_intro0 (c : Dev nD) (t) : tcOwes (F := F) c 0 ⊢ (dat0 A c).owesAt (none : HIx 1) t := by
  unfold tcOwes Pipeline.Dat.owesAt Pipeline.owesWithin
  iintro ⟨%W, %hW, HO⟩
  iexists W; isplitr
  · ipureintro; exact fun p hp => Or.inl (hW p hp)
  iexact HO

theorem owesAt_elim0 (c : Dev nD) (t) : (dat0 A c).owesAt (none : HIx 1) t ⊢ tcOwes (F := F) c 0 := by
  unfold tcOwes Pipeline.Dat.owesAt Pipeline.owesWithin
  iintro ⟨%W, %hW, HO⟩
  iexists W; isplitr
  · ipureintro
    intro p hp
    rcases hW hp with h | ⟨w, s, rfl⟩
    · exact h
    · exact le_rfl
  iexact HO

theorem owesAt_intro2 (c : Dev nD) (t) : tcOwes (F := F) c 1 ⊢ (dat2 A c).owesAt (none : HIx 1) t := by
  unfold tcOwes Pipeline.Dat.owesAt Pipeline.owesWithin
  iintro ⟨%W, %hW, HO⟩
  iexists W; isplitr
  · ipureintro; exact fun p hp => Or.inl (hW p hp)
  iexact HO

theorem owesAt_elim2 (c : Dev nD) (t) : (dat2 A c).owesAt (none : HIx 1) t ⊢ tcOwes (F := F) c 1 := by
  unfold tcOwes Pipeline.Dat.owesAt Pipeline.owesWithin
  iintro ⟨%W, %hW, HO⟩
  iexists W; isplitr
  · ipureintro
    intro p hp
    rcases hW hp with h | ⟨w, s, rfl⟩
    · exact h
    · exact Nat.zero_le _
  iexact HO

/-- The first pipeline's arrays one by one. -/
theorem arrays0 (c : Dev nD) (Fa) : (dat0 A c).arrays Fa
    = iprop(pt c main_arg0 (Fa 0) ∗ pt c main_arg2 (Fa 1) ∗ pt c main_v0 (Fa 2) ∗ pt c main_arg4 (Fa 3) ∗ pt c main_v1 (Fa 4) ∗ pt c main_v2 (Fa 5)) := by
  unfold Pipeline.Dat.arrays
  rw [bigSep_W0]
  simp only [Pipeline.Dat.share, Memref.IsWhole.set_eq_univ, View.set_whole]
  rfl

theorem arrays2 (c : Dev nD) (Fa) : (dat2 A c).arrays Fa = iprop(pt c main_v4 (Fa 0) ∗ pt c main_v5 (Fa 1)) := by
  unfold Pipeline.Dat.arrays
  rw [bigSep_W2]
  simp only [Pipeline.Dat.share, Memref.IsWhole.set_eq_univ, View.set_whole]
  rfl

/-- The first region: the perceptron's result lands in `main_v2`, its operands kept. -/
def reg0 : Pipeline.RegionSeg (pcfgs (F := F)) adm (pdats A A') (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obl0 A c).loose
  hwaits c := Pipeline.cellsWaits_intro _ _ _ _ _ fun w s t => (K (F := F)).mayWait_none _ (Otc_none c 0)
  pre c := iprop(((dat0 A c).arrays ((dat0 A c).arrAt · 0)) ∗ tcOwes c 0)
  post c := iprop(((dat0 A c).arrays ((dat0 A c).arrAt · cfg0.N)) ∗ tcOwes c 0)
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owesAt_intro0 A c 0); iexact HO
    isplitr <;> iempintro
  hin c := by
    rw [show (pdats A A' 0 c).Φ 0 = Pipeline.scopedRest spec0 c from rfl]
    iintro ⟨-, -, H⟩
    iexact H
  hout c := by
    rw [Pipeline.ownSems0_none, show (pdats A A' 0 c).Φ (Fin.last (Pipeline.pin (pcfgs (F := F)) adm 0).N) = Pipeline.scopedRest spec0 c from rfl]
    iintro H
    isplitr; · iempintro
    isplitr; · iempintro
    iexact H
  hexit c := by
    iintro ⟨Ha, HO, -, -⟩
    imodintro
    isplitl [Ha]; · iexact Ha
    iapply (owesAt_elim0 A c _); iexact HO

/-- The second region: the sum of the rows of `main_v4` lands in `main_v5`. -/
def reg2 : Pipeline.RegionSeg (pcfgs (F := F)) adm (pdats A A') (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obl2 A' c).loose
  hwaits c := Pipeline.cellsWaits_intro _ _ _ _ _ fun w s t => (K (F := F)).mayWait_none _ (Otc_none c 1)
  pre c := iprop(((dat2 A' c).arrays ((dat2 A' c).arrAt · 0)) ∗ tcOwes c 1)
  post c := iprop(((dat2 A' c).arrays ((dat2 A' c).arrAt · cfg2.N)) ∗ tcOwes c 1)
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iapply (owesAt_intro2 A' c 0); iexact HO
    isplitr <;> iempintro
  hin c := by
    rw [show (pdats A A' 1 c).Φ 0 = Pipeline.scopedRest spec2 c from rfl]
    iintro ⟨-, -, H⟩
    iexact H
  hout c := by
    rw [Pipeline.ownSems0_none, show (pdats A A' 1 c).Φ (Fin.last (Pipeline.pin (pcfgs (F := F)) adm 1).N) = Pipeline.scopedRest spec2 c from rfl]
    iintro H
    isplitr; · iempintro
    isplitr; · iempintro
    iexact H
  hexit c := by
    iintro ⟨Ha, HO, -, -⟩
    imodintro
    isplitl [Ha]; · iexact Ha
    iapply (owesAt_elim2 A' c _); iexact HO

/-- The rounds' ghost state of one pipeline on device `d`, as the launch deals it. -/
abbrev rounds (p : Fin 2) (d : Dev nD) : sProp 𝕄 :=
  iprop(Pipeline.cellsGhost (Pipeline.pin (pcfgs (F := F)) adm) EP p d ∗ Pipeline.toksInit (Pipeline.pin (pcfgs (F := F)) adm) EP p d)

/-- THE FIRST CUSTOM CALL: holding its operands and its result at `A` and what the TensorCore owes before the SparseCore
    call, it ends holding the operands and the result's buffer at the perceptron's values. -/
theorem call0 (d : Dev nD) {α : Type} (k : PUnit → Prog (TpuEff nD τ sig (Elt F) (ΛP (F := F)) .tc) α) (Q : α → sProp 𝕄) :
    iprop((iprop(boundary (SparseCore.T d : Thread nD τ) ∗ pt d main_arg0 (A d main_arg0) ∗ pt d main_arg2 (A d main_arg2) ∗ pt d main_v0 (A d main_v0)
          ∗ pt d main_arg4 (A d main_arg4) ∗ pt d main_v1 (A d main_v1)
          ∗ pt d main_v2 (mlpOut (A d main_arg0) (A d main_arg2) (A d main_v0) (A d main_arg4) (A d main_v1)) ∗ tcOwes d 0)
        -∗ wp frame (wpE D 𝒱 (SparseCore.T d) none) Set.univ (k ⟨⟩) Q)
      ∗ boundary (SparseCore.T d : Thread nD τ) ∗ pt d main_arg0 (A d main_arg0) ∗ pt d main_arg2 (A d main_arg2) ∗ pt d main_v0 (A d main_v0)
      ∗ pt d main_arg4 (A d main_arg4) ∗ pt d main_v1 (A d main_v1) ∗ pt d main_v2 (A d main_v2) ∗ tcOwes d 0
      ∗ levAts (K (F := F)).L (K (F := F)).lev ∗ rounds 0 d)
      ⊢ wp frame (wpE D 𝒱 (SparseCore.T d) none) Set.univ (.op (.customCall (Pipeline.entry 0) ()) k) Q := by
  have h := Pipeline.RegionSeg.wp (pcfgs (F := F)) adm (pdats A A) (none : HIx 1) cellOf_inj EP defs₀ 𝒱₀ (K (F := F)).L (K (F := F)).lev
    (reg0 A A) d none (fun u hu => by simp at hu) k Q
  refine BIBase.Entails.trans ?_ h
  dsimp only [reg0]
  rw [arrays0, arrays0, (dat0 A d).arrAt_in 0 rfl, (dat0 A d).arrAt_in 1 rfl, (dat0 A d).arrAt_in 2 rfl, (dat0 A d).arrAt_in 3 rfl,
    (dat0 A d).arrAt_in 4 rfl, arr0]
  iintro ⟨Hk, Hb, H0, H1, H2, H3, H4, H5, HO, Hl, Hg, Ht⟩
  isplitl [Hk]
  · iintro ⟨Hb, ⟨H0, H1, H2, H3, H4, H5⟩, HO⟩
    iapply Hk
    isplitl [Hb]; · iexact Hb
    isplitl [H0]; · iexact H0
    isplitl [H1]; · iexact H1
    isplitl [H2]; · iexact H2
    isplitl [H3]; · iexact H3
    isplitl [H4]; · iexact H4
    isplitl [H5]; · iexact H5
    iexact HO
  isplitl [Hb]; · iexact Hb
  isplitr [Hl Hg Ht]
  · isplitr [HO]
    · isplitl [H0]; · iexact H0
      isplitl [H1]; · iexact H1
      isplitl [H2]; · iexact H2
      isplitl [H3]; · iexact H3
      isplitl [H4]; · iexact H4
      iexact H5
    iexact HO
  isplitl [Hl]; · iexact Hl
  isplitl [Hg]; · iexact Hg
  iexact Ht

/-- THE SECOND CUSTOM CALL: it ends with the sum of the rows of `main_v4` in `main_v5`. -/
theorem call2 (d : Dev nD) {α : Type} (k : PUnit → Prog (TpuEff nD τ sig (Elt F) (ΛP (F := F)) .tc) α) (Q : α → sProp 𝕄) :
    iprop((iprop(boundary (SparseCore.T d : Thread nD τ) ∗ pt d main_v4 (A d main_v4) ∗ pt d main_v5 (k2_pay1 (F := F) (A d main_v4)) ∗ tcOwes d 1)
        -∗ wp frame (wpE D 𝒱 (SparseCore.T d) none) Set.univ (k ⟨⟩) Q)
      ∗ boundary (SparseCore.T d : Thread nD τ) ∗ pt d main_v4 (A d main_v4) ∗ pt d main_v5 (A d main_v5) ∗ tcOwes d 1
      ∗ levAts (K (F := F)).L (K (F := F)).lev ∗ rounds 1 d)
      ⊢ wp frame (wpE D 𝒱 (SparseCore.T d) none) Set.univ (.op (.customCall (Pipeline.entry 1) ()) k) Q := by
  have h := Pipeline.RegionSeg.wp (pcfgs (F := F)) adm (pdats A A) (none : HIx 1) cellOf_inj EP defs₀ 𝒱₀ (K (F := F)).L (K (F := F)).lev
    (reg2 A A) d none (fun u hu => by simp at hu) k Q
  refine BIBase.Entails.trans ?_ h
  dsimp only [reg2]
  rw [arrays2, arrays2, (dat2 A d).arrAt_in 0 rfl, arr2]
  iintro ⟨Hk, Hb, H0, H1, HO, Hl, Hg, Ht⟩
  isplitl [Hk]
  · iintro ⟨Hb, ⟨H0, H1⟩, HO⟩
    iapply Hk
    isplitl [Hb]; · iexact Hb
    isplitl [H0]; · iexact H0
    isplitl [H1]; · iexact H1
    iexact HO
  isplitl [Hb]; · iexact Hb
  isplitr [Hl Hg Ht]
  · isplitr [HO]
    · isplitl [H0]; · iexact H0
      iexact H1
    iexact HO
  isplitl [Hl]; · iexact Hl
  isplitl [Hg]; · iexact Hg
  iexact Ht

end Cert.KernelIdeal.Run

end
-- ==== Proof.KernelIdeal.Main.lean ====
/-
  What the SparseCore call takes and gives back: the operands split among the thirty-two tiles, each tile's obligation,
  and the ghost state that the launch starts from.
-/
module

public import proofs.«01_k».proof.Proof.KernelIdeal.Tile
public import proofs.«01_k».proof.Proof.KernelIdeal.Regions
public import Idealize.ShloMosaic.Lib.Pipeline.Kit

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo
open Idealize.ShloMosaic.SparseCore.Cfg (HIx)
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tiles' slices make up the whole arrays -/

/-- The grid point of core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The grid point of a pair of core and subcore. -/
abbrev tileAt (p : Fin 2 × Fin 16) : grid1.Coords := coordsV p.1 p.2

theorem wid_tileAt (p : Fin 2 × Fin 16) : (wid (tileAt p)).val = 2 * p.2.val + p.1.val := rfl

theorem mem_iSet (L : grid1.Coords) (i : S320000.Idx) :
    i ∈ ((iSl L).view.set : Finset S320000.Idx) ↔ 10000 * (wid L).val ≤ (i 0).val ∧ (i 0).val < 10000 * (wid L).val + 10000 := by
  rw [show ((iSl L).view.set : Finset S320000.Idx) = (Rect.unit (s := S320000) (k1_off1 L) S10000.size (k1_off1_inb L)).set from
    View.set_slice_whole _ _, Rect.mem_set_unit]
  have ho : k1_off1 L 0 = 10000 * (wid L).val := by
    rw [k1_off1_eq L]; show 20000 * (L 1).val + 10000 * (L 0).val = 10000 * (2 * (L 1).val + (L 0).val); omega
  constructor
  · intro h; have := h 0; rw [ho] at this; exact this
  · intro h a; obtain rfl : a = 0 := Subsingleton.elim _ _; rw [ho]; exact h

theorem mem_ySet (L : grid1.Coords) (i : S960000.Idx) :
    i ∈ ((ySl L).view.set : Finset S960000.Idx) ↔ 30000 * (wid L).val ≤ (i 0).val ∧ (i 0).val < 30000 * (wid L).val + 30000 := by
  rw [show ((ySl L).view.set : Finset S960000.Idx) = (Rect.unit (s := S960000) (k1_off2 L) S30000.size (k1_off2_inb L)).set from
    View.set_slice_whole _ _, Rect.mem_set_unit]
  have ho : k1_off2 L 0 = 30000 * (wid L).val := by
    rw [k1_off2_eq L]; show 60000 * (L 1).val + 30000 * (L 0).val = 30000 * (2 * (L 1).val + (L 0).val); omega
  constructor
  · intro h; have := h 0; rw [ho] at this; exact this
  · intro h a; obtain rfl : a = 0 := Subsingleton.elim _ _; rw [ho]; exact h

theorem mem_oSet (L : grid1.Coords) (i : S32x6144.Idx) :
    i ∈ ((oSl L).view.set : Finset S32x6144.Idx) ↔ (i 0).val = (wid L).val := by
  rw [show ((oSl L).view.set : Finset S32x6144.Idx) = (Rect.unit (s := S32x6144) (k1_off5 L) S1x6144.size (k1_off5_inb L)).set from
    (View.set_reshape _ _).trans (View.set_slice_whole _ _), Rect.mem_set_unit]
  have ho : k1_off5 L = ![2 * (L 1).val + (L 0).val, 0] := k1_off5_eq L
  constructor
  · intro h; have := h 0; rw [ho] at this
    have h1 : 2 * (L 1).val + (L 0).val ≤ (i 0).val := this.1
    have h2 : (i 0).val < 2 * (L 1).val + (L 0).val + 1 := this.2
    show (i 0).val = 2 * (L 1).val + (L 0).val
    omega
  · intro h a; rw [ho]
    have h' : (i 0).val = 2 * (L 1).val + (L 0).val := h
    have h1 : (i 1).val < 6144 := (i 1).isLt
    fin_cases a
    · show 2 * (L 1).val + (L 0).val ≤ (i 0).val ∧ (i 0).val < 2 * (L 1).val + (L 0).val + 1
      omega
    · show 0 ≤ (i 1).val ∧ (i 1).val < 0 + 6144
      omega

/-- The number of a pair, and the pair of a number. -/
theorem tile_inj {p q : Fin 2 × Fin 16} (h : (wid (tileAt p)).val = (wid (tileAt q)).val) : p = q := by
  rw [wid_tileAt, wid_tileAt] at h
  have := p.1.isLt; have := q.1.isLt
  exact Prod.ext (Fin.ext (by omega)) (Fin.ext (by omega))

theorem tile_surj (w : ℕ) (hw : w < 32) : ∃ p : Fin 2 × Fin 16, (wid (tileAt p)).val = w :=
  ⟨(⟨w % 2, by omega⟩, ⟨w / 2, by omega⟩), by rw [wid_tileAt]; show 2 * (w / 2) + w % 2 = w; omega⟩

/-- A buffer held whole is held at any parts that are apart from each other and leave nothing out. -/
theorem whole_split {T : Type} [Fintype T] [DecidableEq T] (ℓ : Loc nD τ sig) (S : T → Finset (Idx ℓ))
    (hd : ∀ p q i, i ∈ S p → i ∈ S q → p = q) (hc : ∀ i, ∃ p, i ∈ S p) (f : Buf (Elt F) ℓ) :
    (ℓ ↦{fullShare} f : sProp 𝕄) = bigSep Finset.univ fun p => ℓ ↦[S p]{fullShare} f := by
  classical
  rw [← pointsTo_biUnion Finset.univ (ℓ := ℓ) S (fun p _ q _ h => Finset.disjoint_left.mpr fun i h1 h2 => h (hd p q i h1 h2)),
    show (Finset.univ : Finset T).biUnion S = Finset.univ from Finset.eq_univ_iff_forall.mpr fun i => by
      obtain ⟨p, hp⟩ := hc i
      exact Finset.mem_biUnion.mpr ⟨p, Finset.mem_univ _, hp⟩]

/-- The whole array of molecule numbers is the tiles' slices. -/
theorem iPts_tiles (d : Dev nD) (f : Vec F S320000 .i32) :
    (iLoc d ↦{fullShare} (f : Buf (Elt F) (iLoc d)) : sProp 𝕄) = bigSep Finset.univ fun p : Fin 2 × Fin 16 => iPts d (tileAt p) f :=
  whole_split (iLoc d) (fun p : Fin 2 × Fin 16 => ((iSl (tileAt p)).view.set : Finset S320000.Idx))
    (fun p q i h1 h2 => tile_inj (by have h1 := (mem_iSet _ i).mp h1; have h2 := (mem_iSet _ i).mp h2; omega))
    (fun i => by
      have hi : ((i : S320000.Idx) 0).val < 320000 := ((i : S320000.Idx) 0).isLt
      obtain ⟨p, hp⟩ := tile_surj (((i : S320000.Idx) 0).val / 10000) (by omega)
      exact ⟨p, (mem_iSet _ i).mpr (by rw [hp]; omega)⟩) f

/-- The whole array of values is the tiles' slices. -/
theorem yPts_tiles (d : Dev nD) (f : Vec F S960000 .f32) :
    (yLoc d ↦{fullShare} (f : Buf (Elt F) (yLoc d)) : sProp 𝕄) = bigSep Finset.univ fun p : Fin 2 × Fin 16 => yPts d (tileAt p) f :=
  whole_split (yLoc d) (fun p : Fin 2 × Fin 16 => ((ySl (tileAt p)).view.set : Finset S960000.Idx))
    (fun p q i h1 h2 => tile_inj (by have h1 := (mem_ySet _ i).mp h1; have h2 := (mem_ySet _ i).mp h2; omega))
    (fun i => by
      have hi : ((i : S960000.Idx) 0).val < 960000 := ((i : S960000.Idx) 0).isLt
      obtain ⟨p, hp⟩ := tile_surj (((i : S960000.Idx) 0).val / 30000) (by omega)
      exact ⟨p, (mem_ySet _ i).mpr (by rw [hp]; omega)⟩) f

/-- The whole array of the tiles' results is their rows. -/
theorem oPts_tiles (d : Dev nD) (f : Vec F S32x6144 .f32) :
    (oLoc d ↦{fullShare} (f : Buf (Elt F) (oLoc d)) : sProp 𝕄) = bigSep Finset.univ fun p : Fin 2 × Fin 16 => oPts d (tileAt p) f :=
  whole_split (oLoc d) (fun p : Fin 2 × Fin 16 => ((oSl (tileAt p)).view.set : Finset S32x6144.Idx))
    (fun p q i h1 h2 => tile_inj (by have h1 := (mem_oSet _ i).mp h1; have h2 := (mem_oSet _ i).mp h2; omega))
    (fun i => by
      obtain ⟨p, hp⟩ := tile_surj ((i : S32x6144.Idx) 0).val ((i : S32x6144.Idx) 0).isLt
      exact ⟨p, (mem_oSet _ i).mpr hp.symm⟩) f

/-! ## What the handshakes carry -/

section Payload

variable [FloatOps F]
variable (iv : Dev nD → Vec F S320000 .i32) (yv : Dev nD → Vec F S960000 .f32) (ov : Dev nD → Vec F S32x6144 .f32)

/-- What a tile is handed and hands back: its three slices, the result's at `o`. -/
abbrev tileRes (d : Dev nD) (o : Vec F S32x6144 .f32) (p : Fin 2 × Fin 16) : sProp 𝕄 :=
  iprop(iPts d (tileAt p) (iv d) ∗ yPts d (tileAt p) (yv d) ∗ oPts d (tileAt p) o)

/-- A SparseCore is handed its sixteen tiles' slices and hands them back with the rows written. -/
def P : (K (F := F)).Pay (nD := nD) (Val := Elt F) (Name := ℕ) (U := UU) where
  st := fun q d c => match q with | 0 => bigSep Finset.univ fun i : Fin 16 => tileRes iv yv d (ov d) (c, i)
  dn := fun q d c => match q with | 0 => bigSep Finset.univ fun i : Fin 16 => tileRes iv yv d (tilesOut (iv d) (yv d)) (c, i)
  go := fun q d c i => match q with | 0 => tileRes iv yv d (ov d) (c, i)
  td := fun q d c i => match q with | 0 => tileRes iv yv d (tilesOut (iv d) (yv d)) (c, i)
  x := fun _ _ => iprop(emp)

instance P_storable : (P iv yv ov).IsStorable where
  st q d c := match q with
    | 0 => (inferInstance : BI.Storable (upEmb : UEmb _ 𝕄) (bigSep Finset.univ fun i : Fin 16 => tileRes iv yv d (ov d) (c, i)))
  dn q d c := match q with
    | 0 => (inferInstance : BI.Storable (upEmb : UEmb _ 𝕄) (bigSep Finset.univ fun i : Fin 16 => tileRes iv yv d (tilesOut (iv d) (yv d)) (c, i)))
  go q d c i := match q with
    | 0 => (inferInstance : BI.Storable (upEmb : UEmb _ 𝕄) (tileRes iv yv d (ov d) (c, i)))
  td q d c i := match q with
    | 0 => (inferInstance : BI.Storable (upEmb : UEmb _ 𝕄) (tileRes iv yv d (tilesOut (iv d) (yv d)) (c, i)))

/-- The body a tile runs. -/
theorem defs₀_vector (c : Fin τ.nSC) (s : Fin τ.nSub) :
    defs₀ (F := F) (.scVector c s) 1 ()
      = SparseCore.onTile hcore1 hsub1 (fun c s => cc1__sc_scatter_body (coordsV c s)
          (Memref.whole main_v3_scv) (Memref.isWhole_whole _) (Memref.whole main_arg1_scv) (Memref.isWhole_whole _)
          (Memref.whole main_v4_scv) (Memref.isWhole_whole _) (Memref.whole cc1_scratch0) (Memref.isWhole_whole _)
          (Memref.whole cc1_scratch1) (Memref.isWhole_whole _) (Memref.whole cc1_scratch2) (Memref.isWhole_whole _)
          cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets what the launch asks of it. -/
theorem tileObl (hidx : ∀ d a, BitVec.toNat (iv d a) < 2048) : (K (F := F)).TileObl (D (F := F)) 𝒱 (P iv yv ov) v₀ 0 := by
  intro d c i O W hO _ _
  simp only [show (P iv yv ov).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (iv d) (yv d) facts (hidx d) (ov d) O W hO).trans (wp_mono frame _ _ fun _ => obl_post)

theorem vecSplit : (K (F := F)).VecSplit' (P iv yv ov) 0 := by
  intro d c
  show (bigSep Finset.univ fun i : Fin 16 => tileRes iv yv d (ov d) (c, i)) ⊢ |={Set.univ}=> iprop(
      (bigSep Finset.univ fun i : Fin 16 => tileRes iv yv d (ov d) (c, i))
      ∗ ((bigSep Finset.univ fun i : Fin 16 => tileRes iv yv d (tilesOut (iv d) (yv d)) (c, i))
          -∗ (bigSep Finset.univ fun i : Fin 16 => tileRes iv yv d (tilesOut (iv d) (yv d)) (c, i))))
  iintro H; imodintro
  isplitl [H]; · iexact H
  iintro H; iexact H

/-- The three arrays held whole are the tiles' slices of them, core by core. -/
theorem tiles_eq (d : Dev nD) (o : Vec F S32x6144 .f32) :
    (bigSep Finset.univ fun c : Fin 2 => bigSep Finset.univ fun i : Fin 16 => tileRes iv yv d o (c, i) : sProp 𝕄)
      = iprop(pt d main_arg1 (iv d) ∗ pt d main_v3 (yv d) ∗ pt d main_v4 o) := by
  rw [← SparseCore.bigSep_product (Finset.univ : Finset (Fin 2)) (Finset.univ : Finset (Fin 16)) (tileRes iv yv d o), Finset.univ_product_univ]
  unfold tileRes
  rw [bigSep_sep', bigSep_sep', ← iPts_tiles, ← yPts_tiles, ← oPts_tiles]

theorem st0_eq (d : Dev nD) :
    (bigSep Finset.univ fun c : Fin ((K (F := F)).nCore 0) => (P iv yv ov).st 0 d c)
      = iprop(pt d main_arg1 (iv d) ∗ pt d main_v3 (yv d) ∗ pt d main_v4 (ov d)) := tiles_eq iv yv d (ov d)
theorem dn0_eq (d : Dev nD) :
    (bigSep Finset.univ fun c : Fin ((K (F := F)).nCore 0) => (P iv yv ov).dn 0 d c)
      = iprop(pt d main_arg1 (iv d) ∗ pt d main_v3 (yv d) ∗ pt d main_v4 (tilesOut (iv d) (yv d))) := tiles_eq iv yv d (tilesOut (iv d) (yv d))

end Payload

/-! ## The launch's ghost state -/

/-- The handshakes' rounds, the pipelines' rounds, no counter yet. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

/-- What the launch hands a device's TensorCore beside its buffers: both pipelines' rounds. -/
abbrev G (d : Dev nD) : sProp 𝕄 := iprop(rounds 0 d ∗ rounds 1 d)

theorem bigSep_emp' {I : Type} (s : Finset I) : (bigSep s fun _ => iprop(emp)) = (iprop(emp) : sProp 𝕄) := bigSep_emp_const s

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem hu₀ [FloatOps F] (iv : Dev nD → Vec F S320000 .i32) (yv : Dev nD → Vec F S960000 .f32) (ov : Dev nD → Vec F S32x6144 .f32) :
    (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P iv yv ov).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · rw [show (bigSep Finset.univ (G (F := F)) : sProp 𝕄) = iprop((bigSep Finset.univ fun c : Dev nD => bigSep Finset.univ fun p : Fin 2 => Pipeline.cellsGhost (Pipeline.pin (pcfgs (F := F)) adm) EP p c)
        ∗ bigSep Finset.univ fun c : Dev nD => bigSep Finset.univ fun p : Fin 2 => Pipeline.toksInit (Pipeline.pin (pcfgs (F := F)) adm) EP p c) from ?_]
    · isplitl [Hg]; · iexact Hg
      iexact Ht
    · rw [← bigSep_sep']
      refine bigSep_congr fun c _ => ?_
      rw [← bigSep_sep', bigSep_two]
  rw [show (bigSep Finset.univ fun thr : Thread nD τ => bigSep Finset.univ fun q : Fin 1 => (P iv yv ov).x q thr) = (iprop(emp) : sProp 𝕄) from
    (bigSep_congr fun _ _ => bigSep_emp' _).trans (bigSep_emp' _)]
  iempintro

end Cert.KernelIdeal.Run

end
-- ==== Proof.KernelIdeal.Run.lean ====
/-
  `@main` on the TensorCore, from what the launch deals it, and the program's run: the result buffer ends at `kernelOut`
  of the arguments, the arguments unchanged, every semaphore counter at zero.
-/
module

public import proofs.«01_k».proof.Proof.KernelIdeal.Main

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo
open Idealize.ShloMosaic.SparseCore.Cfg (HIx)
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values through `@main` -/

/-- The first bias as a row. -/
def biasRow1 (b1 : Vec F S64 .f32) : Vec F S1x64 .f32 := fun i => shapeCast S1x64 b1 shapeCasts_S64_S1x64 i
/-- The second bias as a row. -/
def biasRow2 (b2 : Vec F S3 .f32) : Vec F S1x3 .f32 := fun i => shapeCast S1x3 b2 shapeCasts_S3_S1x3 i
/-- The perceptron's values in row-major order. -/
def flatY (y : Vec F S320000x3 .f32) : Vec F S960000 .f32 := fun i => shapeCast S960000 y shapeCasts_S320000x3_S960000 i
/-- The sums in row-major order as the result's rows. -/
def unflat (o : Vec F S1x6144 .f32) : Vec F S2048x3 .f32 := fun i => shapeCast S2048x3 o shapeCasts_S1x6144_S2048x3 i

/-- The result as a function of the six arguments. -/
def kernelOut (x : Vec F S320000x128 .f32) (iv : Vec F S320000 .i32) (w1 : Vec F S128x64 .f32) (b1 : Vec F S64 .f32)
    (w2 : Vec F S64x3 .f32) (b2 : Vec F S3 .f32) : Vec F S2048x3 .f32 :=
  unflat (k2_pay1 (F := F) (tilesOut iv (flatY (mlpOut x w1 (biasRow1 b1) w2 (biasRow2 b2)))))

/-- The contents of a buffer of device `d` at the launch. -/
abbrev m0 (d : Dev nD) (b : Ref sig .tc) : Buf (Elt F) ((SparseCore.T d : Thread nD τ).loc b) := m ((SparseCore.T d).loc b)

def y2 (d : Dev nD) : Vec F S320000x3 .f32 :=
  mlpOut (m0 m d main_arg0) (m0 m d main_arg2) (biasRow1 (m0 m d main_arg3)) (m0 m d main_arg4) (biasRow2 (m0 m d main_arg5))
def y3 (d : Dev nD) : Vec F S960000 .f32 := flatY (y2 m d)
def i0 (d : Dev nD) : Vec F S320000 .i32 := m0 m d main_arg1
def o4 (d : Dev nD) : Vec F S32x6144 .f32 := m0 m d main_v4
def t4 (d : Dev nD) : Vec F S32x6144 .f32 := tilesOut (i0 m d) (y3 m d)
def s5 (d : Dev nD) : Vec F S1x6144 .f32 := k2_pay1 (F := F) (t4 m d)

/-- What the first region finds: the launch's contents but for the two rows. -/
def A0 (d : Dev nD) : (b : Ref sig .tc) → Buf (Elt F) ((d : Thread nD τ).loc b) :=
  Function.update (Function.update (fun b => m ((d : Thread nD τ).loc b)) main_v0 (biasRow1 (m0 m d main_arg3))) main_v1 (biasRow2 (m0 m d main_arg5))
/-- What the second region finds: the launch's contents but for the tiles' rows. -/
def A2 (d : Dev nD) : (b : Ref sig .tc) → Buf (Elt F) ((d : Thread nD τ).loc b) :=
  Function.update (fun b => m ((d : Thread nD τ).loc b)) main_v4 (t4 m d)

theorem A0_v0 (d : Dev nD) : A0 m d main_v0 = biasRow1 (m0 m d main_arg3) :=
  (Function.update_of_ne (by decide) _ _).trans (Function.update_self _ _ _)
theorem A0_v1 (d : Dev nD) : A0 m d main_v1 = biasRow2 (m0 m d main_arg5) := Function.update_self _ _ _
theorem A0_ne (d : Dev nD) (b : Ref sig .tc) (h0 : b ≠ main_v0) (h1 : b ≠ main_v1) : A0 m d b = m0 m d b :=
  (Function.update_of_ne h1 _ _).trans (Function.update_of_ne h0 _ _)
theorem A2_v4 (d : Dev nD) : A2 m d main_v4 = t4 m d := Function.update_self _ _ _
theorem A2_ne (d : Dev nD) (b : Ref sig .tc) (h : b ≠ main_v4) : A2 m d b = m0 m d b := Function.update_of_ne h _ _

/-! ## A reshape on the TensorCore -/

/-- A host reshape of one buffer into another, both held whole. -/
theorem wp_reshape (m : (ℓ : Loc nD τ sig) → Buf (Elt F) ℓ) (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false)
    (hxy : (Proc.devRef (τ := τ) .tc x : DevRef τ sig) ≠ Proc.devRef .tc y) (f : x.ty.Contents (Elt F)) (g : y.ty.Contents (Elt F)) (Q : PUnit → sProp 𝕄) :
    iprop((iprop(boundary (SparseCore.T d : Thread nD τ) ∗ pt d x f ∗ pt d y (fun i => he ▸ shapeCast y.ty.shape f hn i)) -∗ Q ⟨⟩)
      ∗ boundary (SparseCore.T d : Thread nD τ) ∗ pt d x f ∗ pt d y g)
      ⊢ wp frame (wpE ((K (F := F)).defs (D (F := F))) 𝒱 (SparseCore.T d) none) Set.univ
          (hlo rfl (StableHlo.reshape x y he hn hx hy : HloOp τ sig (Elt F)) fun _ => .ret ⟨⟩) Q := by
  let Vx : Valuation τ sig (Elt F) :=
    Function.update (Function.update (fun b => m (d, b)) (Proc.devRef .tc x) f) (Proc.devRef .tc y) g
  have hVx : Vx (Proc.devRef .tc x) = f := (Function.update_of_ne hxy _ _).trans (Function.update_self _ _ _)
  have hVy : Vx (Proc.devRef .tc y) = g := Function.update_self _ _ _
  let S : Finset (DevRef τ sig) := {Proc.devRef .tc x, Proc.devRef .tc y}
  have hS : ∀ W : Valuation τ sig (Elt F), (held (SparseCore.T d : Thread nD τ) S W : sProp 𝕄)
      = iprop(pt d x (W (Proc.devRef .tc x)) ∗ pt d y (W (Proc.devRef .tc y))) := fun W => by
    unfold held
    rw [show S = insert (Proc.devRef .tc x) {Proc.devRef .tc y} from rfl, SparseCore.bigSep_insert' (by simpa using hxy), bigSep_singleton]
  have hRx : (StableHlo.reshape x y he hn hx hy : HloOp τ sig (Elt F)).result Vx (Proc.devRef .tc x) = f :=
    ((StableHlo.reshape x y he hn hx hy : HloOp τ sig (Elt F)).result_of_not_mem Vx (fun h => hxy (Finset.mem_singleton.mp h))).trans hVx
  have hRy : (StableHlo.reshape x y he hn hx hy : HloOp τ sig (Elt F)).result Vx (Proc.devRef .tc y) = fun i => he ▸ shapeCast y.ty.shape f hn i := by
    rw [StableHlo.reshape_result x y he hn hx hy Vx, hVx]
  iintro ⟨Hk, Hb, Hx, Hy⟩
  iapply (wp_hlo_within 𝒱 (SparseCore.T d) none Set.univ (op := (StableHlo.reshape x y he hn hx hy : HloOp τ sig (Elt F))) (S := S)
    (Finset.Subset.refl _) (V := Vx)) $$ [Hb Hx Hy]
  · isplitl [Hb]; · iexact Hb
    rw [hS, hVx, hVy]
    isplitl [Hx]; · iexact Hx
    iexact Hy
  iintro ⟨Hb, Hh⟩
  ihave Hh' := (Entails.of_eq (show (held (SparseCore.T d : Thread nD τ) S ((StableHlo.reshape x y he hn hx hy : HloOp τ sig (Elt F)).result Vx) : sProp 𝕄)
    = iprop(pt d x f ∗ pt d y (fun i => he ▸ shapeCast y.ty.shape f hn i)) by rw [hS, hRx, hRy])) $$ Hh
  icases Hh' with ⟨Hx, Hy⟩
  rw [wp_ret]; imodintro
  iapply Hk
  isplitl [Hb]; · iexact Hb
  isplitl [Hx]; · iexact Hx
  iexact Hy

/-! ## What the TensorCore owes, out of its state and back -/

omit [FloatOps F] in
/-- The TensorCore's state before a call is what it owes and the rest. -/
theorem tcSt_split (d : Dev nD) (n : ℕ) : ∃ R : sProp 𝕄, ((K (F := F)).tcSt EH d n : sProp 𝕄) = iprop(tcOwes d n ∗ R) :=
  ⟨_, by unfold SparseCore.Cfg.tcSt tcOwes; rfl⟩

/-! ## The two regions at `@main`'s level -/

/-- The call of region 0, below the SparseCore calls and among them. -/
theorem lift0 (d : Dev nD) (Q : PUnit → sProp 𝕄) :
    wp frame (wpE (D (F := F)) 𝒱 (SparseCore.T d) none) Set.univ
        (.op (.customCall (Pipeline.entry 0) ()) fun _ => .ret ⟨⟩ : Prog (TpuEff nD τ sig (Elt F) (ΛP (F := F)) .tc) PUnit) Q
      ⊢ wp frame (wpE ((K (F := F)).defs (D (F := F))) 𝒱 (SparseCore.T d) none) Set.univ
          (Prog.lift (.customCall (SparseCore.inner (Pipeline.entry 0)) ())) Q :=
  (K (F := F)).wp_liftProg (D (F := F)) 𝒱 (SparseCore.T d) Set.univ none
    (.op (.customCall (Pipeline.entry 0) ()) fun _ => .ret ⟨⟩ : Prog (TpuEff nD τ sig (Elt F) (ΛP (F := F)) .tc) PUnit) Q

/-- The first region's call: the perceptron's values. -/
theorem wp_region0 (d : Dev nD) (Q : PUnit → sProp 𝕄) :
    iprop((iprop(boundary (SparseCore.T d : Thread nD τ) ∗ pt d main_arg0 (m0 m d main_arg0) ∗ pt d main_arg2 (m0 m d main_arg2) ∗ pt d main_v0 (biasRow1 (m0 m d main_arg3))
          ∗ pt d main_arg4 (m0 m d main_arg4) ∗ pt d main_v1 (biasRow2 (m0 m d main_arg5)) ∗ pt d main_v2 (y2 m d) ∗ tcOwes d 0) -∗ Q ⟨⟩)
      ∗ boundary (SparseCore.T d : Thread nD τ) ∗ pt d main_arg0 (m0 m d main_arg0) ∗ pt d main_arg2 (m0 m d main_arg2) ∗ pt d main_v0 (biasRow1 (m0 m d main_arg3))
      ∗ pt d main_arg4 (m0 m d main_arg4) ∗ pt d main_v1 (biasRow2 (m0 m d main_arg5)) ∗ pt d main_v2 (m0 m d main_v2) ∗ tcOwes d 0
      ∗ levAts (K (F := F)).L (K (F := F)).lev ∗ rounds 0 d)
      ⊢ wp frame (wpE ((K (F := F)).defs (D (F := F))) 𝒱 (SparseCore.T d) none) Set.univ
          (Prog.lift (.customCall (SparseCore.inner (Pipeline.entry 0)) ())) Q := by
  have h := call0 (A0 m) d (fun _ => .ret ⟨⟩) Q
  rw [A0_v0, A0_v1, A0_ne m d main_arg0 (by decide) (by decide), A0_ne m d main_arg2 (by decide) (by decide),
    A0_ne m d main_arg4 (by decide) (by decide), A0_ne m d main_v2 (by decide) (by decide), wp_ret] at h
  refine BIBase.Entails.trans ?_ (BIBase.Entails.trans h (lift0 d Q))
  iintro ⟨Hk, H⟩
  isplitl [Hk]
  · iintro H; imodintro; iapply Hk; iexact H
  iexact H

/-- The call of region 1, below the SparseCore calls and among them. -/
theorem lift2 (d : Dev nD) (Q : PUnit → sProp 𝕄) :
    wp frame (wpE (D (F := F)) 𝒱 (SparseCore.T d) none) Set.univ
        (.op (.customCall (Pipeline.entry 1) ()) fun _ => .ret ⟨⟩ : Prog (TpuEff nD τ sig (Elt F) (ΛP (F := F)) .tc) PUnit) Q
      ⊢ wp frame (wpE ((K (F := F)).defs (D (F := F))) 𝒱 (SparseCore.T d) none) Set.univ
          (Prog.lift (.customCall (SparseCore.inner (Pipeline.entry 1)) ())) Q :=
  (K (F := F)).wp_liftProg (D (F := F)) 𝒱 (SparseCore.T d) Set.univ none
    (.op (.customCall (Pipeline.entry 1) ()) fun _ => .ret ⟨⟩ : Prog (TpuEff nD τ sig (Elt F) (ΛP (F := F)) .tc) PUnit) Q

/-- The second region's call: the sum of the tiles' rows. -/
theorem wp_region2 (d : Dev nD) (Q : PUnit → sProp 𝕄) :
    iprop((iprop(boundary (SparseCore.T d : Thread nD τ) ∗ pt d main_v4 (t4 m d) ∗ pt d main_v5 (s5 m d) ∗ tcOwes d 1) -∗ Q ⟨⟩)
      ∗ boundary (SparseCore.T d : Thread nD τ) ∗ pt d main_v4 (t4 m d) ∗ pt d main_v5 (m0 m d main_v5) ∗ tcOwes d 1
      ∗ levAts (K (F := F)).L (K (F := F)).lev ∗ rounds 1 d)
      ⊢ wp frame (wpE ((K (F := F)).defs (D (F := F))) 𝒱 (SparseCore.T d) none) Set.univ
          (Prog.lift (.customCall (SparseCore.inner (Pipeline.entry 1)) ())) Q := by
  have h := call2 (A2 m) d (fun _ => .ret ⟨⟩) Q
  rw [A2_v4, A2_ne m d main_v5 (by decide), wp_ret] at h
  refine BIBase.Entails.trans ?_ (BIBase.Entails.trans h (lift2 d Q))
  iintro ⟨Hk, H⟩
  isplitl [Hk]
  · iintro H; imodintro; iapply Hk; iexact H
  iexact H

/-! ## `@main` -/

omit [FloatOps F] in
theorem unscopedBufs_eq (d : Dev nD) (W : (b : Ref sig .tc) → Buf (Elt F) ((d.tc : Thread nD τ).loc b)) :
    (unscopedBufs d W : sProp 𝕄) = iprop(pt d main_arg0 (W main_arg0) ∗ pt d main_arg1 (W main_arg1) ∗ pt d main_arg2 (W main_arg2)
      ∗ pt d main_arg3 (W main_arg3) ∗ pt d main_arg4 (W main_arg4) ∗ pt d main_arg5 (W main_arg5) ∗ pt d main_v0 (W main_v0) ∗ pt d main_v1 (W main_v1)
      ∗ pt d main_v2 (W main_v2) ∗ pt d main_v3 (W main_v3) ∗ pt d main_v4 (W main_v4) ∗ pt d main_v5 (W main_v5) ∗ pt d main_v6 (W main_v6)) := by
  unfold unscopedBufs
  rw [show (Finset.univ.filter fun b : Ref sig .tc => ¬ b.isScoped) = {main_arg0, main_arg1, main_arg2, main_arg3, main_arg4, main_arg5, main_v0,
      main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The result of device `d`. -/
def outV (d : Dev nD) : Vec F S2048x3 .f32 := unflat (s5 m d)

/-- What `@main` ends with: the arguments as they were, the result. -/
abbrev FIN (d : Dev nD) : sProp 𝕄 :=
  iprop(pt d main_arg0 (m0 m d main_arg0) ∗ pt d main_arg1 (m0 m d main_arg1) ∗ pt d main_arg2 (m0 m d main_arg2) ∗ pt d main_arg3 (m0 m d main_arg3)
    ∗ pt d main_arg4 (m0 m d main_arg4) ∗ pt d main_arg5 (m0 m d main_arg5) ∗ pt d main_v6 (outV m d))

/-- The handshakes' payload at the launch's contents. -/
abbrev Pm : (K (F := F)).Pay (nD := nD) (Val := Elt F) (Name := ℕ) (U := UU) := P (i0 m) (y3 m) (o4 m)

theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R0, hR0⟩ := tcSt_split (F := F) d 0
  obtain ⟨R1, hR1⟩ := tcSt_split (F := F) d 1
  unfold SparseCore.Cfg.tcRes SparseCore.Cfg.tcEnd
  rw [unscopedBufs_eq]
  simp only [main, wp_bind, wp_pure]
  iintro ⟨#Hctx, Hst, ⟨Hb, ⟨Ha0, Ha1, Ha2, Ha3, Ha4, Ha5, Hv0, Hv1, Hv2, Hv3, Hv4, Hv5, Hv6⟩, Hts, -⟩, Hg0, Hg1⟩
  ihave #Hlev := (SparseCore.Cfg.ctx_levAts κ) $$ Hctx
  -- the two biases as rows
  iapply (wp_reshape m d main_arg3 main_v0 rfl shapeCasts_S64_S1x64 ⟨by decide, rfl⟩ ⟨by decide, rfl⟩ (by decide) (m0 m d main_arg3) (m0 m d main_v0) _)
  isplitr [Hb Ha3 Hv0]; rotate_left
  · isplitl [Hb]; · iexact Hb
    isplitl [Ha3]; · iexact Ha3
    iexact Hv0
  iintro ⟨Hb, Ha3, Hv0⟩
  iapply (wp_reshape m d main_arg5 main_v1 rfl shapeCasts_S3_S1x3 ⟨by decide, rfl⟩ ⟨by decide, rfl⟩ (by decide) (m0 m d main_arg5) (m0 m d main_v1) _)
  isplitr [Hb Ha5 Hv1]; rotate_left
  · isplitl [Hb]; · iexact Hb
    isplitl [Ha5]; · iexact Ha5
    iexact Hv1
  iintro ⟨Hb, Ha5, Hv1⟩
  -- the perceptron
  ihave Hst' := (Entails.of_eq hR0) $$ Hst
  icases Hst' with ⟨HO, HR⟩
  iapply (wp_region0 m d _)
  isplitr [Hb Ha0 Ha2 Hv0 Ha4 Hv1 Hv2 HO Hg0]; rotate_left
  · isplitl [Hb]; · iexact Hb
    isplitl [Ha0]; · iexact Ha0
    isplitl [Ha2]; · iexact Ha2
    isplitl [Hv0]; · iexact Hv0
    isplitl [Ha4]; · iexact Ha4
    isplitl [Hv1]; · iexact Hv1
    isplitl [Hv2]; · iexact Hv2
    isplitl [HO]; · iexact HO
    isplitr; · iexact Hlev
    iexact Hg0
  iintro ⟨Hb, Ha0, Ha2, Hv0, Ha4, Hv1, Hv2, HO⟩
  ihave Hst := (Entails.of_eq hR0.symm) $$ [HO HR]
  · isplitl [HO]; · iexact HO
    iexact HR
  -- its values in row-major order
  iapply (wp_reshape m d main_v2 main_v3 rfl shapeCasts_S320000x3_S960000 ⟨by decide, rfl⟩ ⟨by decide, rfl⟩ (by decide) (y2 m d) (m0 m d main_v3) _)
  isplitr [Hb Hv2 Hv3]; rotate_left
  · isplitl [Hb]; · iexact Hb
    isplitl [Hv2]; · iexact Hv2
    iexact Hv3
  iintro ⟨Hb, Hv2, Hv3⟩
  -- the SparseCore call
  iapply ((K (F := F)).wp_run (D (F := F)) 𝒱 (EH := EH) (P := Pm m) κ d 0)
  isplitr; · iexact Hctx
  isplitl [Hst]; · iexact Hst
  isplitl [Ha1 Hv3 Hv4]
  · rw [st0_eq]
    isplitl [Ha1]; · iexact Ha1
    isplitl [Hv3]; · iexact Hv3
    iexact Hv4
  iintro ⟨Hst, Hdn⟩
  ihave Hdn' := (Entails.of_eq (dn0_eq (i0 m) (y3 m) (o4 m) d)) $$ Hdn
  icases Hdn' with ⟨Ha1, Hv3, Hv4⟩
  -- the sum of the tiles' rows
  ihave Hst' := (Entails.of_eq (show ((K (F := F)).tcSt EH d ((0 : Fin 1).val + 1) : sProp 𝕄) = _ from hR1)) $$ Hst
  icases Hst' with ⟨HO, HR⟩
  iapply (wp_region2 m d _)
  isplitr [Hb Hv4 Hv5 HO Hg1]; rotate_left
  · isplitl [Hb]; · iexact Hb
    isplitl [Hv4]; · iexact Hv4
    isplitl [Hv5]; · iexact Hv5
    isplitl [HO]; · iexact HO
    isplitr; · iexact Hlev
    iexact Hg1
  iintro ⟨Hb, Hv4, Hv5, HO⟩
  ihave Hst := (Entails.of_eq hR1.symm) $$ [HO HR]
  · isplitl [HO]; · iexact HO
    iexact HR
  -- the sums as the result's rows
  iapply (wp_reshape m d main_v5 main_v6 rfl shapeCasts_S1x6144_S2048x3 ⟨by decide, rfl⟩ ⟨by decide, rfl⟩ (by decide) (s5 m d) (m0 m d main_v6) _)
  isplitr [Hb Hv5 Hv6]; rotate_left
  · isplitl [Hb]; · iexact Hb
    isplitl [Hv5]; · iexact Hv5
    iexact Hv6
  iintro ⟨Hb, Hv5, Hv6⟩
  imodintro
  isplitl [Hst]; · iexact Hst
  isplitr [Hb Hts]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Hv6
  isplitl [Hb] <;> iassumption

/-! ## The run -/

/-- What device `d`'s memory ends with. -/
def fq (d : Dev nD) (s' : Phys nD τ sig (Elt F)) : Prop :=
  s'.mem.mem ((SparseCore.T d : Thread nD τ).loc main_v6) = outV m d
    ∧ s'.mem.mem ((SparseCore.T d : Thread nD τ).loc main_arg0) = m0 m d main_arg0 ∧ s'.mem.mem ((SparseCore.T d : Thread nD τ).loc main_arg1) = m0 m d main_arg1
    ∧ s'.mem.mem ((SparseCore.T d : Thread nD τ).loc main_arg2) = m0 m d main_arg2 ∧ s'.mem.mem ((SparseCore.T d : Thread nD τ).loc main_arg3) = m0 m d main_arg3
    ∧ s'.mem.mem ((SparseCore.T d : Thread nD τ).loc main_arg4) = m0 m d main_arg4 ∧ s'.mem.mem ((SparseCore.T d : Thread nD τ).loc main_arg5) = m0 m d main_arg5

omit [FloatOps F] in
/-- A buffer held whole is what the memory holds. -/
theorem agree (d : Dev nD) (b : Ref sig .tc) (f : b.ty.Contents (Elt F)) (s' : Phys nD τ sig (Elt F)) :
    iprop(SI s' ∗ pt d b f) ⊢ (iprop((SI s' ∗ pt d b f) ∗ ⌜s'.mem.mem ((SparseCore.T d : Thread nD τ).loc b) = f⌝) : sProp 𝕄) := by
  refine (persistent_entails_right (SI_pointsTo_agree (st := s') (ℓ := (SparseCore.T d : Thread nD τ).loc b) (I := Finset.univ) (q := fullShare) (f := f))).trans ?_
  iintro ⟨%h, H⟩
  isplitl [H]; · iexact H
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨H0, H1, H2, H3, H4, H5, H6⟩, HSI⟩
  ihave H := (agree d main_arg0 _ s') $$ [HSI H0]
  · isplitl [HSI] <;> iassumption
  icases H with ⟨⟨HSI, -⟩, %h0⟩
  ihave H := (agree d main_arg1 _ s') $$ [HSI H1]
  · isplitl [HSI] <;> iassumption
  icases H with ⟨⟨HSI, -⟩, %h1⟩
  ihave H := (agree d main_arg2 _ s') $$ [HSI H2]
  · isplitl [HSI] <;> iassumption
  icases H with ⟨⟨HSI, -⟩, %h2⟩
  ihave H := (agree d main_arg3 _ s') $$ [HSI H3]
  · isplitl [HSI] <;> iassumption
  icases H with ⟨⟨HSI, -⟩, %h3⟩
  ihave H := (agree d main_arg4 _ s') $$ [HSI H4]
  · isplitl [HSI] <;> iassumption
  icases H with ⟨⟨HSI, -⟩, %h4⟩
  ihave H := (agree d main_arg5 _ s') $$ [HSI H5]
  · isplitl [HSI] <;> iassumption
  icases H with ⟨⟨HSI, -⟩, %h5⟩
  ihave H := (agree d main_v6 _ s') $$ [HSI H6]
  · isplitl [HSI] <;> iassumption
  icases H with ⟨⟨HSI, -⟩, %h6⟩
  ipureintro; exact ⟨h6, h0, h1, h2, h3, h4, h5⟩

/-- What every device's memory ends with, every counter at zero. -/
def QC : PUnit × MemSt nD τ sig (Elt F) → Prop := fun r =>
  (∀ d : Dev nD, r.2.mem ((SparseCore.T d : Thread nD τ).loc main_v6) = outV m d
    ∧ r.2.mem ((SparseCore.T d : Thread nD τ).loc main_arg0) = m0 m d main_arg0 ∧ r.2.mem ((SparseCore.T d : Thread nD τ).loc main_arg1) = m0 m d main_arg1
    ∧ r.2.mem ((SparseCore.T d : Thread nD τ).loc main_arg2) = m0 m d main_arg2 ∧ r.2.mem ((SparseCore.T d : Thread nD τ).loc main_arg3) = m0 m d main_arg3
    ∧ r.2.mem ((SparseCore.T d : Thread nD τ).loc main_arg4) = m0 m d main_arg4 ∧ r.2.mem ((SparseCore.T d : Thread nD τ).loc main_arg5) = m0 m d main_arg5)
  ∧ r.2.sem = fun _ => 0

/-- THE RUN: with every molecule number below 2048, every weakly fair execution of the program ends, the result buffer at
    `kernelOut` of the arguments, the arguments unchanged, every counter at zero. -/
theorem run_main [∀ e, Nonempty (Elt F e)] (hidx : ∀ (d : Dev nD) a, BitVec.toNat (i0 m d a) < 2048) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (i0 m) (y3 m) (o4 m) hidx)
    (fun q _ => match q with | 0 => SparseCore.Cfg.VecSplit.of_plain (vecSplit (i0 m) (y3 m) (o4 m)))
    m ρ main G (FIN m) (u₀ (F := F)) (sep_elim_left.trans (hu₀ (i0 m) (y3 m) (o4 m))) (hmain m ρ) (fq m) (hfin m) (QC m) (fun _ h hz => ⟨h, hz⟩)

/-- The result is `kernelOut` of the arguments. -/
theorem outV_eq (d : Dev nD) : outV m d = kernelOut (m0 m d main_arg0) (m0 m d main_arg1) (m0 m d main_arg2) (m0 m d main_arg3)
    (m0 m d main_arg4) (m0 m d main_arg5) := rfl

end Cert.KernelIdeal.Run

end
-- ==== Proof.Frames.lean ====
/-
  The frames: the precondition read as a bound on every molecule number, and from it the two kernels' runs at their
  arguments; the reference's from its own run.
-/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import proofs.«01_k».proof.Proof.Gen.Pre_molecules
public import Idealize.ShloMosaic.Lib.ReduceAll
public import Idealize.ShloMosaic.Lib.Quiescent

@[expose] public section

noncomputable section

namespace Cert.Proof

open Idealize.ShloMosaic Idealize.SL.Sem

/-- A word that is at least 0 and below 2048 as a signed word is below 2048 as a number. -/
theorem word_lt (v : BitVec 32) (e : IntOp.andi (IntOp.cmpi .sge v 0#32) (IntOp.cmpi .slt v 2048#32) = 1#1) : v.toNat < 2048 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Where the precondition is one, every molecule number is below 2048. -/
theorem below_of_pre {F : FTy → Type} [FloatOps F] (x : FVec F Cert.Pre_molecules.S320000x128 .f32) (iv : IVec Cert.Pre_molecules.S320000 32)
    (w1 : FVec F Cert.Pre_molecules.S128x64 .f32) (b1 : FVec F Cert.Pre_molecules.S64 .f32) (w2 : FVec F Cert.Pre_molecules.S64x3 .f32)
    (b2 : FVec F Cert.Pre_molecules.S3 .f32) (h : Cert.Pre_molecules.fn (F := F) x iv w1 b1 w2 b2 = fun _ => 1#1)
    (a : Cert.Pre_molecules.S320000.Idx) : BitVec.toNat (iv a) < 2048 := by
  haveI : Subsingleton Cert.Pre_molecules.S_.Idx := ⟨fun p q => funext fun k => k.elim0⟩
  have e := Host.reduce_andi_all _ _ _ _ _ (congrFun h (fun k => k.elim0)) a
  exact word_lt _ e

/-- The kernel's frame. -/
theorem frame_Kernel : Cert.quiescent_Kernel := fun m ρ hpre =>
  (θ_run Cert.Kernel.defs _ _).mono (fun _ h => ⟨fun c => (h.1 c).2, h.2⟩)
    (Cert.Kernel.Run.run_main (F := Bits) m ρ fun d a => below_of_pre _ _ _ _ _ _ (hpre d) a)

/-- The idealized kernel's frame. -/
theorem frame_KernelIdeal : Cert.quiescent_KernelIdeal := fun m ρ hpre =>
  (θ_run Cert.KernelIdeal.defs _ _).mono (fun _ h => ⟨fun c => (h.1 c).2, h.2⟩)
    (Cert.KernelIdeal.Run.run_main (F := Ideal) m ρ fun d a => below_of_pre _ _ _ _ _ _ (hpre d) a)

/-- The reference's frame. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame under the precondition. -/
theorem frame_ReferenceIdeal_pre : Cert.quiescent_ReferenceIdeal_pre_molecules := fun m ρ _ => frame_ReferenceIdeal m ρ trivial

end Cert.Proof

end
-- ==== Proof.TileSum.lean ====
/-
  Over the extended reals a tile's accumulator is a plain sum: component `c` of molecule `mol` holds the sum of
  component `c` of every atom of the tile whose molecule is `mol`. Sums over the 32 tiles' slices are one sum over all
  atoms.
-/
module

public import proofs.«01_k».proof.Proof.KernelIdeal.TileVal
public import Idealize.ShloMosaic.PureOps.Ideal
public import Idealize.ShloMosaic.Lib.ValueIdx

@[expose] public section

set_option maxRecDepth 16384

noncomputable section

namespace Cert.KernelIdeal.Run

open Cert.KernelIdeal Cert.KernelIdeal.Gen
open Idealize.ShloMosaic
open scoped BigOperators

/-! ## Sums over blocks -/

/-- `n` blocks of `k` terms are `k * n` terms. -/
theorem sum_blocks (G : ℕ → EReal) (k n : ℕ) :
    ∑ w ∈ Finset.range n, ∑ a ∈ Finset.range k, G (k * w + a) = ∑ b ∈ Finset.range (k * n), G b := by
  induction n with
  | zero => simp
  | succ n ih => rw [Finset.sum_range_succ, ih, Nat.mul_succ, Finset.sum_range_add]

/-! ## One accumulating store -/

/-- Adding the 16 lanes in order at the words they name adds, at each word, the sum of the lanes that name it. -/
theorem scat_apply (acc : Vec Ideal S6144 .f32) (ix : IVec S16 32) (v : Vec Ideal S16 .f32) (j : S6144.Idx) :
    (scat acc ix v j : EReal) = acc j + ∑ l : Fin 16, if (j 0).val = (ix (ValueIdx.ix1 l)).toNat then (v (ValueIdx.ix1 l) : EReal) else 0 := by
  have key : ∀ (L : List (Fin 16)) (g : Vec Ideal S6144 .f32),
      (L.foldl (fun (g : Vec Ideal S6144 .f32) l => fun j =>
        if (j 0).val = (ix (ValueIdx.ix1 l)).toNat then Elt.idxAdd .f32 (g j) (v (ValueIdx.ix1 l)) else g j) g j : EReal)
        = g j + (L.map fun l => if (j 0).val = (ix (ValueIdx.ix1 l)).toNat then (v (ValueIdx.ix1 l) : EReal) else 0).sum := by
    intro L
    induction L with
    | nil => intro g; simp
    | cons l L ih =>
      intro g
      rw [List.foldl_cons, ih, List.map_cons, List.sum_cons, ← add_assoc]
      congr 1
      by_cases h : (j 0).val = (ix (ValueIdx.ix1 l)).toNat
      · rw [if_pos h, if_pos h]; rfl
      · rw [if_neg h, if_neg h, add_zero]
  rw [Fin.sum_univ_def]
  exact key (List.finRange 16) acc

/-! ## One trip -/

/-- The word of molecule `mol`'s component `c`. -/
def slot (mol : Fin 2048) (c : Fin 3) : S6144.Idx := ValueIdx.ix1 ⟨3 * mol.val + c.val, by omega⟩

/-- Component `c` of the tile's atom `a`, where its molecule is `mol`, and zero where it is not. -/
def term (idx : Vec Ideal S10000 .i32) (y : Vec Ideal S30000 .f32) (mol : Fin 2048) (c : Fin 3) (a : ℕ) : EReal :=
  if BitVec.toNat (idx (ValueIdx.ix1 ⟨a % 10000, Nat.mod_lt _ (by decide)⟩)) = mol.val then
    (y (ValueIdx.ix1 ⟨(3 * a + c.val) % 30000, Nat.mod_lt _ (by decide)⟩) : EReal) else 0

/-- One of a trip's three stores, the one of component `d`, seen at component `c`: the 16 atoms' components where
    `c = d`, nothing elsewhere. -/
theorem store_at (idx : Vec Ideal S10000 .i32) (y : Vec Ideal S30000 .f32) (k : Fin k1_t2_loop.trips)
    (mol : Fin 2048) (c : Fin 3) (d : ℕ) (hd : d < 3) (ld st : IVec S16 32)
    (hld : ∀ x : S16.Idx, (ld x).toNat = 3 * (16 * k.val + (x 0).val) + d)
    (hst : ∀ x : S16.Idx, (st x).toNat = 3 * BitVec.toNat (lanes idx k x) + d) :
    (∑ l : Fin 16, if (slot mol c 0).val = (st (ValueIdx.ix1 l)).toNat then (gath y ld (ValueIdx.ix1 l) : EReal) else 0)
      = if c.val = d then ∑ l : Fin 16, term idx y mol c (16 * k.val + l.val) else 0 := by
  have hk := k.isLt
  have ht := k1_t2_abs.2.1
  have hs : (slot mol c 0).val = 3 * mol.val + c.val := rfl
  by_cases hc : c.val = d
  · rw [if_pos hc]
    refine Finset.sum_congr rfl fun l _ => ?_
    have hl := l.isLt
    have e1 : (st (ValueIdx.ix1 l)).toNat = 3 * BitVec.toNat (lanes idx k (ValueIdx.ix1 l)) + d := hst (ValueIdx.ix1 l)
    have e2 : (ld (ValueIdx.ix1 l)).toNat = 3 * (16 * k.val + l.val) + d := hld (ValueIdx.ix1 l)
    have e3 : lanes idx k (ValueIdx.ix1 l) = idx (ValueIdx.ix1 ⟨(16 * k.val + l.val) % 10000, Nat.mod_lt _ (by decide)⟩) := by
      unfold lanes
      refine congrArg idx (congrArg ValueIdx.ix1 (Fin.ext ?_))
      show 16 * k.val + l.val = (16 * k.val + l.val) % 10000
      omega
    have e4 : (gath y ld (ValueIdx.ix1 l) : EReal) = y (ValueIdx.ix1 ⟨(3 * (16 * k.val + l.val) + c.val) % 30000, Nat.mod_lt _ (by decide)⟩) := by
      unfold gath
      refine congrArg y (congrArg ValueIdx.ix1 (Fin.ext ?_))
      show (ld (ValueIdx.ix1 l)).toNat % 30000 = _
      rw [e2, hc]
    unfold term
    rw [e4, hs, e1, e3]
    exact if_congr (by omega) rfl rfl
  · rw [if_neg hc]
    refine Finset.sum_eq_zero fun l _ => ?_
    have e1 : (st (ValueIdx.ix1 l)).toNat = 3 * BitVec.toNat (lanes idx k (ValueIdx.ix1 l)) + d := hst (ValueIdx.ix1 l)
    rw [if_neg]
    rw [hs, e1]
    have := c.isLt
    omega

/-- One trip adds its 16 atoms' terms. -/
theorem trip_slot (idx : Vec Ideal S10000 .i32) (y : Vec Ideal S30000 .f32) (k : Fin k1_t2_loop.trips)
    (hidx : ∀ a, BitVec.toNat (idx a) < 2048) (acc : Vec Ideal S6144 .f32) (mol : Fin 2048) (c : Fin 3) :
    (trip idx y k acc (slot mol c) : EReal) = acc (slot mol c) + ∑ l : Fin 16, term idx y mol c (16 * k.val + l.val) := by
  have hln : ∀ x, BitVec.toNat (lanes idx k x) < 2048 := fun x => hidx _
  unfold trip
  rw [scat_apply, scat_apply, scat_apply,
    store_at idx y k mol c 0 (by decide) (k1_pay4 k) (k1_pay5 (lanes idx k)) (pay4_toNat k) (fun x => pay5_toNat _ x (hln x)),
    store_at idx y k mol c 1 (by decide) (k1_pay6 k) (k1_pay7 (lanes idx k)) (pay6_toNat k) (fun x => pay7_toNat _ x (hln x)),
    store_at idx y k mol c 2 (by decide) (k1_pay8 k) (k1_pay9 (lanes idx k)) (pay8_toNat k) (fun x => pay9_toNat _ x (hln x))]
  have hc : c.val = 0 ∨ c.val = 1 ∨ c.val = 2 := by omega
  rcases hc with h | h | h <;> simp [h]

/-! ## All trips -/

/-- After `n` trips the accumulator holds the terms of the first `16 n` atoms. -/
theorem accAt_slot (idx : Vec Ideal S10000 .i32) (y : Vec Ideal S30000 .f32) (hidx : ∀ a, BitVec.toNat (idx a) < 2048)
    (mol : Fin 2048) (c : Fin 3) (n : ℕ) (hn : n ≤ k1_t2_loop.trips) :
    (accAt idx y n (slot mol c) : EReal) = ∑ a ∈ Finset.range (16 * n), term idx y mol c a := by
  induction n with
  | zero =>
    rw [accAt_zero]
    simp only [Nat.mul_zero, Finset.range_zero, Finset.sum_empty]
    show Ideal.ofBits .f32 0x00000000#32 = 0
    simp [Ideal.ofBits, Ideal.ieee]
  | succ n ih =>
    rw [accAt_succ idx y ⟨n, hn⟩, trip_slot idx y ⟨n, hn⟩ hidx, ih (Nat.le_of_lt hn), Nat.mul_succ, Finset.sum_range_add]
    congr 1

/-! ## All tiles -/

/-- Component `c` of atom `b`, where its molecule is `mol`, and zero where it is not. -/
def atomTerm (iv : Vec Ideal S320000 .i32) (yv : Vec Ideal S960000 .f32) (mol : Fin 2048) (c : Fin 3) (b : ℕ) : EReal :=
  if BitVec.toNat (iv (ValueIdx.ix1 ⟨b % 320000, Nat.mod_lt _ (by decide)⟩)) = mol.val then
    (yv (ValueIdx.ix1 ⟨(3 * b + c.val) % 960000, Nat.mod_lt _ (by decide)⟩) : EReal) else 0

/-- The 32 tiles' partial sums of one molecule's component add up to the sum over all 320000 atoms. -/
theorem tilesOut_sum (iv : Vec Ideal S320000 .i32) (yv : Vec Ideal S960000 .f32) (hiv : ∀ a, BitVec.toNat (iv a) < 2048)
    (mol : Fin 2048) (c : Fin 3) :
    (∑ w : Fin 32, (tilesOut iv yv (ValueIdx.ix2 w (slot mol c 0)) : EReal)) = ∑ b ∈ Finset.range 320000, atomTerm iv yv mol c b := by
  have ht : k1_t2_loop.trips = 625 := by decide
  have e : ∀ w : Fin 32, (tilesOut iv yv (ValueIdx.ix2 w (slot mol c 0)) : EReal)
      = ∑ a ∈ Finset.range 10000, atomTerm iv yv mol c (10000 * w.val + a) := fun w => by
    have h1 : (tilesOut iv yv (ValueIdx.ix2 w (slot mol c 0)) : EReal) = accAt (idxOf iv w) (yOf yv w) k1_t2_loop.trips (slot mol c) := rfl
    rw [h1, accAt_slot (idxOf iv w) (yOf yv w) (fun a => hiv _) mol c _ le_rfl, ht]
    refine Finset.sum_congr rfl fun a ha => ?_
    have ha' : a < 10000 := Finset.mem_range.1 ha
    have hw := w.isLt
    have hc := c.isLt
    have i1 : idxOf iv w (ValueIdx.ix1 ⟨a % 10000, Nat.mod_lt _ (by decide)⟩) = iv (ValueIdx.ix1 ⟨(10000 * w.val + a) % 320000, Nat.mod_lt _ (by decide)⟩) := by
      unfold idxOf
      refine congrArg iv (congrArg ValueIdx.ix1 (Fin.ext ?_))
      show 10000 * w.val + a % 10000 = (10000 * w.val + a) % 320000
      omega
    have i2 : yOf yv w (ValueIdx.ix1 ⟨(3 * a + c.val) % 30000, Nat.mod_lt _ (by decide)⟩)
        = yv (ValueIdx.ix1 ⟨(3 * (10000 * w.val + a) + c.val) % 960000, Nat.mod_lt _ (by decide)⟩) := by
      unfold yOf
      refine congrArg yv (congrArg ValueIdx.ix1 (Fin.ext ?_))
      show 30000 * w.val + (3 * a + c.val) % 30000 = (3 * (10000 * w.val + a) + c.val) % 960000
      omega
    unfold term atomTerm
    rw [i1, i2]
  rw [Finset.sum_congr rfl fun w _ => e w,
    ← Finset.sum_range (fun w => ∑ a ∈ Finset.range 10000, atomTerm iv yv mol c (10000 * w + a)), sum_blocks]

end Cert.KernelIdeal.Run

end
-- ==== Proof.MlpSum.lean ====
/-
  Over the extended reals the kernel's network and the reference's compute the same value for each atom: the second
  linear layer of `h · 1 / (1 + e⁻ʰ)`, `h` the first linear layer.
-/
module

public import proofs.«01_k».proof.Proof.KernelIdeal.Run
public import proofs.«01_k».proof.Proof.Gen.ReferenceIdeal
public import Idealize.ShloMosaic.Lib.Pipeline.Value
public import Idealize.ShloMosaic.Lib.MatmulPlain
public import Idealize.ShloMosaic.Lib.StackMember
public import Idealize.ShloMosaic.Lib.IdealHost
public import Idealize.ShloMosaic.Lib.ValueIdx

@[expose] public section

set_option maxRecDepth 16384

noncomputable section

namespace Cert.Values

open Idealize.ShloMosaic
open scoped BigOperators

/-! ## One atom -/

/-- Unit `k` of the first layer at atom `a`, before the activation. -/
def hid (x : Vec Ideal ⟨2, ![320000, 128]⟩ .f32) (w1 : Vec Ideal ⟨2, ![128, 64]⟩ .f32) (b1 : Vec Ideal ⟨1, ![64]⟩ .f32)
    (a : Fin 320000) (k : Fin 64) : EReal :=
  (∑ d : Fin 128, (x (ValueIdx.ix2 a d) : EReal) * w1 (ValueIdx.ix2 d k)) + b1 (ValueIdx.ix1 k)

/-- Component `c` of atom `a`. -/
def atomOut (x : Vec Ideal ⟨2, ![320000, 128]⟩ .f32) (w1 : Vec Ideal ⟨2, ![128, 64]⟩ .f32) (b1 : Vec Ideal ⟨1, ![64]⟩ .f32)
    (w2 : Vec Ideal ⟨2, ![64, 3]⟩ .f32) (b2 : Vec Ideal ⟨1, ![3]⟩ .f32) (a : Fin 320000) (c : Fin 3) : EReal :=
  (∑ k : Fin 64, (hid x w1 b1 a k * Ideal.logistic (hid x w1 b1 a k)) * w2 (ValueIdx.ix2 k c)) + b2 (ValueIdx.ix1 c)

/-! ## The kernel -/

section Kernel
open Cert.KernelIdeal Cert.KernelIdeal.Gen Cert.KernelIdeal.Run

theorem zero_bits : Ideal.ofBits .f32 0x00000000#32 = 0 := by simp [Ideal.ofBits, Ideal.ieee]

/-- The first bias row, read at a column. -/
theorem biasRow1_at (b1 : Vec Ideal S64 .f32) (k : Fin 64) : biasRow1 b1 (ValueIdx.ix2 (0 : Fin 1) k) = b1 (ValueIdx.ix1 k) := by
  unfold biasRow1
  refine shapeCast_apply _ _ _ _ ?_
  rw [Shape.rowMajor_val_one, Shape.rowMajor_val_two]
  show k.val = 0 * 64 + k.val
  omega

/-- The second bias row, read at a column. -/
theorem biasRow2_at (b2 : Vec Ideal S3 .f32) (c : Fin 3) : biasRow2 b2 (ValueIdx.ix2 (0 : Fin 1) c) = b2 (ValueIdx.ix1 c) := by
  unfold biasRow2
  refine shapeCast_apply _ _ _ _ ?_
  rw [Shape.rowMajor_val_one, Shape.rowMajor_val_two]
  show c.val = 0 * 3 + c.val
  omega

/-- A block of 2000 atoms through the two layers, read at one atom's component. -/
theorem pay_at (xb : Vec Ideal S2000x128 .f32) (w1 : Vec Ideal S128x64 .f32) (r1 : Vec Ideal S1x64 .f32)
    (w2 : Vec Ideal S64x3 .f32) (r2 : Vec Ideal S1x3 .f32) (r : Fin 2000) (c : Fin 3) :
    (k0_pay1 xb w1 r1 w2 r2 (ValueIdx.ix2 r c) : EReal)
      = (∑ k : Fin 64,
          (((∑ d : Fin 128, (xb (ValueIdx.ix2 r d) : EReal) * w1 (ValueIdx.ix2 d k)) + r1 (ValueIdx.ix2 (0 : Fin 1) k))
            * Ideal.logistic ((∑ d : Fin 128, (xb (ValueIdx.ix2 r d) : EReal) * w1 (ValueIdx.ix2 d k)) + r1 (ValueIdx.ix2 (0 : Fin 1) k)))
            * w2 (ValueIdx.ix2 k c))
        + r2 (ValueIdx.ix2 (0 : Fin 1) c) := by
  have d1 : dot_S2000x128_S128x64_S2000x64_1_0_0_1_n_n = DotDims.plain 2000 128 64 := rfl
  have d2 : dot_S2000x64_S64x3_S2000x3_1_0_0_1_n_n = DotDims.plain 2000 64 3 := rfl
  have bc1 : ∀ k : Fin 64, broadcastTo S2000x64 (shapeCast S1x64 r1 shapeCasts_S1x64_S1x64) broadcasts_S1x64_S2000x64 (ValueIdx.ix2 r k) = r1 (ValueIdx.ix2 (0 : Fin 1) k) := fun k => by
    rw [shapeCast_self]
    refine broadcastTo_apply _ _ _ _ fun a => ?_
    match a with
    | ⟨0, _⟩ => rfl
    | ⟨1, _⟩ => rfl
  have bc2 : broadcastTo S2000x3 (shapeCast S1x3 r2 shapeCasts_S1x3_S1x3) broadcasts_S1x3_S2000x3 (ValueIdx.ix2 r c) = r2 (ValueIdx.ix2 (0 : Fin 1) c) := by
    rw [shapeCast_self]
    refine broadcastTo_apply _ _ _ _ fun a => ?_
    match a with
    | ⟨0, _⟩ => rfl
    | ⟨1, _⟩ => rfl
  unfold k0_pay1
  rw [d1, d2, ValueIdx.addf_apply, bc2]
  refine congrArg (· + _) ?_
  refine (Ideal.matmul_plain_apply none _ _ _ r c).trans ?_
  rw [ValueIdx.constant_apply, zero_bits, zero_add]
  refine Finset.sum_congr rfl fun k _ => congrArg (· * _) ?_
  rw [ValueIdx.mulf_apply]
  have e : ∀ v : FVec Ideal S2000x64 .f32, logistic v (ValueIdx.ix2 r k) = Ideal.logistic (v (ValueIdx.ix2 r k)) := fun _ => rfl
  rw [e, ValueIdx.addf_apply, bc1]
  have m : matmul (F := Ideal) (φ₁ := .f32) (φ₂ := .f32) (DotDims.plain 2000 128 64) none xb w1 (constant S2000x64 .f32 0x00000000#32) (ValueIdx.ix2 r k)
      = ∑ d : Fin 128, (xb (ValueIdx.ix2 r d) : EReal) * w1 (ValueIdx.ix2 d k) := by
    refine (Ideal.matmul_plain_apply none xb w1 _ r k).trans ?_
    rw [ValueIdx.constant_apply, zero_bits, zero_add]
  rw [m]

/-- The kernel's network, block by block, read at one atom's component. -/
theorem mlpOut_at (x : Vec Ideal S320000x128 .f32) (w1 : Vec Ideal S128x64 .f32) (b1 : Vec Ideal S64 .f32)
    (w2 : Vec Ideal S64x3 .f32) (b2 : Vec Ideal S3 .f32) (a : Fin 320000) (c : Fin 3) :
    (mlpOut x w1 (biasRow1 b1) w2 (biasRow2 b2) (ValueIdx.ix2 a c) : EReal) = atomOut x w1 b1 w2 b2 a c := by
  have ha := a.isLt
  have ex : ∀ d : Fin 128, xRows x ⟨a.val / 2000, by omega⟩ (ValueIdx.ix2 (⟨a.val % 2000, Nat.mod_lt _ (by decide)⟩ : Fin 2000) d) = x (ValueIdx.ix2 a d) := fun d => by
    unfold xRows
    refine congrArg x (congrArg (fun q => ValueIdx.ix2 q d) (Fin.ext ?_))
    show 2000 * (a.val / 2000) + a.val % 2000 = a.val
    omega
  unfold mlpOut
  refine (pay_at (xRows x ⟨a.val / 2000, by omega⟩) w1 (biasRow1 b1) w2 (biasRow2 b2) ⟨a.val % 2000, Nat.mod_lt _ (by decide)⟩ c).trans ?_
  unfold atomOut hid
  simp only [ex, biasRow1_at, biasRow2_at]

end Kernel

/-! ## The reference -/

section Reference
open Cert.ReferenceIdeal Cert.ReferenceIdeal.Gen

/-- The reference's first layer. -/
def refHid (x : FVec Ideal S320000x128 .f32) (w1 : FVec Ideal S128x64 .f32) (b1 : FVec Ideal S64 .f32) : FVec Ideal S320000x64 .f32 :=
  addf (Host.dotGeneral dot_S320000x128_S128x64_S320000x64_1_0_0_1_n_n none x w1)
    (broadcastInDim S320000x64 ![0, 1] bcast_S1x64_S320000x64_0_1 (broadcastInDim S1x64 ![1] bcast_S64_S1x64_1 b1))

/-- The array of ones. -/
def ones : FVec Ideal S320000x64 .f32 := broadcastInDim S320000x64 ![] bcast_S_S320000x64 (constant (F := Ideal) S_ .f32 0x3F800000#32)

/-- The reference's per-atom values. -/
def refAtoms (x : FVec Ideal S320000x128 .f32) (w1 : FVec Ideal S128x64 .f32) (b1 : FVec Ideal S64 .f32)
    (w2 : FVec Ideal S64x3 .f32) (b2 : FVec Ideal S3 .f32) : FVec Ideal S320000x3 .f32 :=
  addf (Host.dotGeneral dot_S320000x64_S64x3_S320000x3_1_0_0_1_n_n none
      (mulf (refHid x w1 b1) (Host.divf ones (addf ones (Host.exp (Host.negf (refHid x w1 b1)))))) w2)
    (broadcastInDim S320000x3 ![0, 1] bcast_S1x3_S320000x3_0_1 (broadcastInDim S1x3 ![1] bcast_S3_S1x3_1 b2))

theorem refHid_at (x : FVec Ideal S320000x128 .f32) (w1 : FVec Ideal S128x64 .f32) (b1 : FVec Ideal S64 .f32) (a : Fin 320000) (k : Fin 64) :
    (refHid x w1 b1 (ValueIdx.ix2 a k) : EReal) = hid x w1 b1 a k := by
  have d1 : dot_S320000x128_S128x64_S320000x64_1_0_0_1_n_n = DotDims.plain 320000 128 64 := rfl
  have bc : broadcastInDim S320000x64 ![0, 1] bcast_S1x64_S320000x64_0_1 (broadcastInDim S1x64 ![1] bcast_S64_S1x64_1 b1) (ValueIdx.ix2 a k)
      = b1 (ValueIdx.ix1 k) := by
    refine (broadcastInDim_apply _ _ _ _ (ValueIdx.ix2 (0 : Fin 1) k) fun q => ?_).trans (broadcastInDim_apply _ _ _ _ (ValueIdx.ix1 k) fun q => ?_)
    · match q with
      | ⟨0, _⟩ => rfl
      | ⟨1, _⟩ => rfl
    · match q with
      | ⟨0, _⟩ => rfl
  unfold refHid hid
  rw [ValueIdx.addf_apply, bc, d1]
  exact congrArg (· + _) (StackMember.dotGeneral_plain_apply none x w1 a k)

theorem ones_at (j : S320000x64.Idx) : (ones j : EReal) = 1 := by
  unfold ones
  rw [ValueIdx.broadcastInDim_scalar_apply]
  exact Ideal.ofBits_one_f32

/-- The reference's network read at one atom's component. -/
theorem refAtoms_at (x : FVec Ideal S320000x128 .f32) (w1 : FVec Ideal S128x64 .f32) (b1 : FVec Ideal S64 .f32)
    (w2 : FVec Ideal S64x3 .f32) (b2 : FVec Ideal S3 .f32) (a : Fin 320000) (c : Fin 3) :
    (refAtoms x w1 b1 w2 b2 (ValueIdx.ix2 a c) : EReal) = atomOut x w1 b1 w2 b2 a c := by
  have d2 : dot_S320000x64_S64x3_S320000x3_1_0_0_1_n_n = DotDims.plain 320000 64 3 := rfl
  have bc : broadcastInDim S320000x3 ![0, 1] bcast_S1x3_S320000x3_0_1 (broadcastInDim S1x3 ![1] bcast_S3_S1x3_1 b2) (ValueIdx.ix2 a c)
      = b2 (ValueIdx.ix1 c) := by
    refine (broadcastInDim_apply _ _ _ _ (ValueIdx.ix2 (0 : Fin 1) c) fun q => ?_).trans (broadcastInDim_apply _ _ _ _ (ValueIdx.ix1 c) fun q => ?_)
    · match q with
      | ⟨0, _⟩ => rfl
      | ⟨1, _⟩ => rfl
    · match q with
      | ⟨0, _⟩ => rfl
  unfold refAtoms atomOut
  rw [ValueIdx.addf_apply, bc, d2]
  refine congrArg (· + _) ((StackMember.dotGeneral_plain_apply none _ w2 a c).trans ?_)
  refine Finset.sum_congr rfl fun k _ => congrArg (· * _) ?_
  rw [ValueIdx.mulf_apply, ValueIdx.hostDivf_apply, ValueIdx.addf_apply, ones_at]
  have e : Host.exp (Host.negf (refHid x w1 b1)) (ValueIdx.ix2 a k) = Ideal.exp (-(refHid x w1 b1 (ValueIdx.ix2 a k) : EReal)) := rfl
  rw [e, refHid_at]
  rfl

end Reference

end Cert.Values

end
-- ==== Proof.Sums.lean ====
/-
  Over the extended reals both programs' results are, for each molecule and component, the sum of that component over
  the molecule's atoms: the kernel's tile by tile and then over the tiles, the reference's by one scatter with add.
-/
module

public import proofs.«01_k».proof.Proof.TileSum
public import proofs.«01_k».proof.Proof.MlpSum
public import Idealize.ShloMosaic.PureOps.Ideal.Laws
public import Idealize.ShloMosaic.Lib.Routing.OpsPair

@[expose] public section

set_option maxRecDepth 16384

noncomputable section

namespace Cert.Values

open Idealize.ShloMosaic
open scoped BigOperators

/-- Component `c` of molecule `mol`: the sum over the atoms whose molecule it is. -/
def molSum (x : Vec Ideal ⟨2, ![320000, 128]⟩ .f32) (iv : IVec ⟨1, ![320000]⟩ 32) (w1 : Vec Ideal ⟨2, ![128, 64]⟩ .f32)
    (b1 : Vec Ideal ⟨1, ![64]⟩ .f32) (w2 : Vec Ideal ⟨2, ![64, 3]⟩ .f32) (b2 : Vec Ideal ⟨1, ![3]⟩ .f32)
    (mol : Fin 2048) (c : Fin 3) : EReal :=
  ∑ a : Fin 320000, if (iv (ValueIdx.ix1 a)).toNat = mol.val then atomOut x w1 b1 w2 b2 a c else 0

/-! ## The kernel -/

section Kernel
open Cert.KernelIdeal Cert.KernelIdeal.Gen Cert.KernelIdeal.Run

/-- The flattened per-atom values, read at atom `a`'s component `c`. -/
theorem flatY_at (y : Vec Ideal S320000x3 .f32) (a : Fin 320000) (c : Fin 3) (q : Fin 960000) (hq : q.val = 3 * a.val + c.val) :
    flatY y (ValueIdx.ix1 q) = y (ValueIdx.ix2 a c) := by
  unfold flatY
  refine shapeCast_apply _ _ _ _ ?_
  rw [Shape.rowMajor_val_one, Shape.rowMajor_val_two]
  show a.val * 3 + c.val = q.val
  omega

/-- The result's rows, read at molecule `mol`'s component `c`. -/
theorem unflat_at (o : Vec Ideal S1x6144 .f32) (mol : Fin 2048) (c : Fin 3) :
    unflat o (ValueIdx.ix2 mol c) = o (ValueIdx.ix2 (0 : Fin 1) (slot mol c 0)) := by
  unfold unflat
  refine shapeCast_apply _ _ _ _ ?_
  rw [Shape.rowMajor_val_two, Shape.rowMajor_val_two]
  show 0 * 6144 + (3 * mol.val + c.val) = mol.val * 3 + c.val
  omega

/-- The last reduction adds up the 32 rows. -/
theorem rows_at (v : Vec Ideal S32x6144 .f32) (q : Fin 6144) :
    (k2_pay1 v (ValueIdx.ix2 (0 : Fin 1) q) : EReal) = ∑ w : Fin 32, (v (ValueIdx.ix2 w q) : EReal) := by
  have h1 : k2_pay1 v (ValueIdx.ix2 (0 : Fin 1) q)
      = multiReduction (F := Ideal) (φ := .f32) .add [0] S6144 (shapeCast S32x6144 v shapeCasts_S32x6144_S32x6144) 0x00000000#32
          reduces_S32x6144_S6144 (.inl rfl) rfl (ValueIdx.ix1 q) := by
    unfold k2_pay1
    refine shapeCast_apply _ _ _ _ ?_
    rw [Shape.rowMajor_val_one, Shape.rowMajor_val_two]
    show q.val = 0 * 6144 + q.val
    omega
  rw [h1]
  refine (Ideal.multiReduction_add_single _ _ reduces_S32x6144_S6144 _ _ (ValueIdx.ix1 q)).trans ?_
  refine Finset.sum_congr rfl fun w _ => ?_
  rw [shapeCast_self]
  refine congrArg v (funext fun a => Fin.ext ?_)
  match a with
  | ⟨0, _⟩ => rfl
  | ⟨1, _⟩ => rfl

/-- The kernel's result is the molecules' sums. -/
theorem kernelOut_at (x : Vec Ideal S320000x128 .f32) (iv : Vec Ideal S320000 .i32) (w1 : Vec Ideal S128x64 .f32) (b1 : Vec Ideal S64 .f32)
    (w2 : Vec Ideal S64x3 .f32) (b2 : Vec Ideal S3 .f32) (hiv : ∀ a, BitVec.toNat (iv a) < 2048) (mol : Fin 2048) (c : Fin 3) :
    (kernelOut x iv w1 b1 w2 b2 (ValueIdx.ix2 mol c) : EReal) = molSum x iv w1 b1 w2 b2 mol c := by
  unfold kernelOut
  refine (unflat_at _ mol c).trans ((rows_at _ _).trans ((tilesOut_sum _ _ hiv mol c).trans ?_))
  rw [Finset.sum_range]
  unfold molSum
  refine Finset.sum_congr rfl fun a _ => ?_
  have ha := a.isLt
  have hc := c.isLt
  have i1 : iv (ValueIdx.ix1 ⟨a.val % 320000, Nat.mod_lt _ (by decide)⟩) = iv (ValueIdx.ix1 a) :=
    congrArg iv (congrArg ValueIdx.ix1 (Fin.ext (Nat.mod_eq_of_lt ha)))
  unfold atomTerm
  rw [i1, flatY_at _ a c _ (Nat.mod_eq_of_lt (by omega)), mlpOut_at]

end Kernel

/-! ## The reference -/

section Reference
open Cert.ReferenceIdeal Cert.ReferenceIdeal.Gen

/-- The reference's result from the per-atom values. -/
def refSums (iv : IVec S320000 32) (y : FVec Ideal S320000x3 .f32) : FVec Ideal S2048x3 .f32 :=
  Host.scatterAdd scatter_S2048x3_S320000x1_S320000x3_1_0_0_1
    (broadcastInDim S2048x3 ![] bcast_S_S2048x3 (constant (F := Ideal) S_ .f32 0x00000000#32))
    (broadcastInDim S320000x1 ![0] bcast_S320000_S320000x1_0 iv) y

/-- The molecule numbers as a column. -/
theorem column_at (iv : IVec S320000 32) (a : Fin 320000) :
    broadcastInDim S320000x1 ![0] bcast_S320000_S320000x1_0 iv (ValueIdx.ix2 a (0 : Fin 1)) = iv (ValueIdx.ix1 a) :=
  broadcastInDim_apply _ _ _ _ (ValueIdx.ix1 a) fun q => by
    match q with
    | ⟨0, _⟩ => rfl

/-- Component `c'` of atom `a` is added at molecule `mol`'s component `c` exactly when `mol` is the atom's molecule and
    the components are the same. -/
theorem lands (iv : IVec S320000 32) (hiv : ∀ a, (iv a).toNat < 2048) (a : Fin 320000) (c' c : Fin 3) (mol : Fin 2048) :
    scatter_S2048x3_S320000x1_S320000x3_1_0_0_1.resultIdx? (ValueIdx.ix2 a c') (broadcastInDim S320000x1 ![0] bcast_S320000_S320000x1_0 iv)
        = some (ValueIdx.ix2 mol c) ↔ (iv (ValueIdx.ix1 a)).toNat = mol.val ∧ c' = c := by
  rw [Routing.resultIdx?_eq_some]
  have s0 : scatter_S2048x3_S320000x1_S320000x3_1_0_0_1.start (ValueIdx.ix2 a c') (broadcastInDim S320000x1 ![0] bcast_S320000_S320000x1_0 iv) 0
      = (iv (ValueIdx.ix1 a)).toInt := by
    rw [← column_at iv a]
    unfold ScatterDims.start
    have hm : (0 : Fin S2048x3.rank) ∈ scatter_S2048x3_S320000x1_S320000x3_1_0_0_1.scatterDimsToOperandDims := List.mem_singleton.2 rfl
    rw [dif_pos hm]
    refine congrArg (fun i => BitVec.toInt (broadcastInDim S320000x1 ![0] bcast_S320000_S320000x1_0 iv i)) (funext fun b => Fin.ext ?_)
    match b with
    | ⟨0, _⟩ => rfl
    | ⟨1, _⟩ => rfl
  have s1 : scatter_S2048x3_S320000x1_S320000x3_1_0_0_1.start (ValueIdx.ix2 a c') (broadcastInDim S320000x1 ![0] bcast_S320000_S320000x1_0 iv) 1 = 0 := rfl
  have n0 : scatter_S2048x3_S320000x1_S320000x3_1_0_0_1.window (ValueIdx.ix2 a c') 0 = 0 := rfl
  have n1 : scatter_S2048x3_S320000x1_S320000x3_1_0_0_1.window (ValueIdx.ix2 a c') 1 = c'.val := rfl
  have hi : (iv (ValueIdx.ix1 a)).toInt = ((iv (ValueIdx.ix1 a)).toNat : Int) := by
    have := hiv (ValueIdx.ix1 a)
    rw [BitVec.toInt_eq_toNat_cond, if_pos (by omega)]
  constructor
  · intro h
    have h0 := h 0
    have h1 := h 1
    rw [s0, n0, hi] at h0
    rw [s1, n1] at h1
    change ((iv (ValueIdx.ix1 a)).toNat : Int) + ((0 : ℕ) : Int) = (mol.val : Int) at h0
    change (0 : Int) + (c'.val : Int) = (c.val : Int) at h1
    exact ⟨by omega, Fin.ext (by omega)⟩
  · rintro ⟨h0, rfl⟩ b
    match b with
    | ⟨0, _⟩ =>
      refine (congrArg₂ (fun (p : Int) (q : ℕ) => p + (q : Int)) (s0.trans hi) n0).trans ?_
      show ((iv (ValueIdx.ix1 a)).toNat : Int) + ((0 : ℕ) : Int) = (mol.val : Int)
      omega
    | ⟨1, _⟩ =>
      refine (congrArg₂ (fun (p : Int) (q : ℕ) => p + (q : Int)) s1 n1).trans ?_
      show (0 : Int) + (c'.val : Int) = (c'.val : Int)
      omega

/-- The scatter with add, read at one molecule's component. -/
theorem refSums_at (iv : IVec S320000 32) (y : FVec Ideal S320000x3 .f32) (hiv : ∀ a, (iv a).toNat < 2048) (mol : Fin 2048) (c : Fin 3) :
    (refSums iv y (ValueIdx.ix2 mol c) : EReal)
      = ∑ a : Fin 320000, if (iv (ValueIdx.ix1 a)).toNat = mol.val then (y (ValueIdx.ix2 a c) : EReal) else 0 := by
  have h0 : (broadcastInDim S2048x3 ![] bcast_S_S2048x3 (constant (F := Ideal) S_ .f32 0x00000000#32) (ValueIdx.ix2 mol c) : EReal) = 0 := by
    rw [ValueIdx.broadcastInDim_scalar_apply]
    exact zero_bits
  have h1 : (refSums iv y (ValueIdx.ix2 mol c) : EReal)
      = broadcastInDim S2048x3 ![] bcast_S_S2048x3 (constant (F := Ideal) S_ .f32 0x00000000#32) (ValueIdx.ix2 mol c)
        + ∑ j ∈ Finset.univ.filter (fun j => scatter_S2048x3_S320000x1_S320000x3_1_0_0_1.resultIdx? j
            (broadcastInDim S320000x1 ![0] bcast_S320000_S320000x1_0 iv) = some (ValueIdx.ix2 mol c)), (y j : EReal) := rfl
  rw [h1, h0, zero_add, Finset.sum_filter, ValueIdx.sum_idx2]
  refine Finset.sum_congr rfl fun a _ => ?_
  have e : ∀ c' : Fin 3, (if scatter_S2048x3_S320000x1_S320000x3_1_0_0_1.resultIdx? (ValueIdx.ix2 a c')
        (broadcastInDim S320000x1 ![0] bcast_S320000_S320000x1_0 iv) = some (ValueIdx.ix2 mol c) then (y (ValueIdx.ix2 a c') : EReal) else 0)
      = if c' = c then (if (iv (ValueIdx.ix1 a)).toNat = mol.val then (y (ValueIdx.ix2 a c') : EReal) else 0) else 0 := fun c' => by
    rw [if_congr (lands iv hiv a c' c mol) rfl rfl]
    by_cases hc : c' = c
    · by_cases hm : (iv (ValueIdx.ix1 a)).toNat = mol.val
      · rw [if_pos ⟨hm, hc⟩, if_pos hc, if_pos hm]
      · rw [if_neg fun h => hm h.1, if_pos hc, if_neg hm]
    · rw [if_neg fun h => hc h.2, if_neg hc]
  rw [Finset.sum_congr rfl fun c' _ => e c', Finset.sum_ite_eq' Finset.univ c, if_pos (Finset.mem_univ c)]

/-- The reference's result is the molecules' sums. -/
theorem reference_at (x : FVec Ideal S320000x128 .f32) (iv : IVec S320000 32) (w1 : FVec Ideal S128x64 .f32) (b1 : FVec Ideal S64 .f32)
    (w2 : FVec Ideal S64x3 .f32) (b2 : FVec Ideal S3 .f32) (hiv : ∀ a, (iv a).toNat < 2048) (mol : Fin 2048) (c : Fin 3) :
    (refSums iv (refAtoms x w1 b1 w2 b2) (ValueIdx.ix2 mol c) : EReal) = molSum x iv w1 b1 w2 b2 mol c := by
  rw [refSums_at iv _ hiv]
  unfold molSum
  simp only [refAtoms_at]

end Reference

/-- The two results are one array. -/
theorem kernel_eq_reference (x : FVec Ideal ⟨2, ![320000, 128]⟩ .f32) (iv : IVec ⟨1, ![320000]⟩ 32) (w1 : FVec Ideal ⟨2, ![128, 64]⟩ .f32)
    (b1 : FVec Ideal ⟨1, ![64]⟩ .f32) (w2 : FVec Ideal ⟨2, ![64, 3]⟩ .f32) (b2 : FVec Ideal ⟨1, ![3]⟩ .f32)
    (hiv : ∀ a, (iv a).toNat < 2048) :
    Cert.KernelIdeal.Run.kernelOut (F := Ideal) x iv w1 b1 w2 b2 = refSums iv (refAtoms x w1 b1 w2 b2) := by
  funext j
  obtain ⟨mol, c, rfl⟩ : ∃ (mol : Fin 2048) (c : Fin 3), j = ValueIdx.ix2 mol c := ⟨j 0, j 1, ValueIdx.eq_ix2 j⟩
  exact (kernelOut_at x iv w1 b1 w2 b2 hiv mol c).trans (reference_at x iv w1 b1 w2 b2 hiv mol c).symm

end Cert.Values

end
-- ==== Proof.Algebraic.lean ====
/-
  The value claim: the idealized kernel and the idealized reference, run from memories that agree on the arguments, end
  with the same result.
-/
module

public import proofs.«01_k».proof.Proof.Frames
public import proofs.«01_k».proof.Proof.Sums

@[expose] public section

noncomputable section

namespace Cert.Proof

open Idealize.ShloMosaic Idealize.SL.Sem

/-- Under the precondition the kernel's result and the reference's are the same array. -/
theorem algebraic : Cert.algebraic_KernelIdeal_ReferenceIdeal := by
  intro m g m' g' hpre hagree
  have hidx : ∀ (d : Dev Cert.KernelIdeal.nD) a, BitVec.toNat (Cert.KernelIdeal.Run.i0 (F := Ideal) m d a) < 2048 :=
    fun d a => below_of_pre _ _ _ _ _ _ (hpre d) a
  refine ⟨fun c => Cert.KernelIdeal.Run.outV (F := Ideal) m c, ?_, ?_⟩
  · exact (θ_run Cert.KernelIdeal.defs _ _).mono (fun _ h => h.1) (Cert.KernelIdeal.Run.run_main (F := Ideal) m g hidx)
  · refine (θ_run Cert.ReferenceIdeal.defs _ _).mono (fun r h c => ?_) (Cert.ReferenceIdeal.Value.run (F := Ideal) m' g')
    refine ⟨(h c).1.trans ?_, (h c).2⟩
    obtain ⟨h0, h1, h2, h3, h4, h5⟩ := hagree c
    rw [h0, h1, h2, h3, h4, h5]
    exact (Cert.Values.kernel_eq_reference _ _ _ _ _ _ (fun a => hidx c a)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_molecules
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_molecules.Gen.facts,
  frame_Kernel, frame_KernelIdeal, frame_ReferenceIdeal, frame_ReferenceIdeal_pre, trivial, algebraic⟩

end Cert.Proof

end
